-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x256 : Shape := ⟨2, ![128, 256]⟩
abbrev S3x15 : Shape := ⟨2, ![3, 15]⟩
abbrev S512x32768 : Shape := ⟨2, ![512, 32768]⟩
abbrev S512 : Shape := ⟨1, ![512]⟩
abbrev S256x512 : Shape := ⟨2, ![256, 512]⟩
abbrev S256 : Shape := ⟨1, ![256]⟩
abbrev S128 : Shape := ⟨1, ![128]⟩
abbrev S256x128 : Shape := ⟨2, ![256, 128]⟩
abbrev S1x15 : Shape := ⟨2, ![1, 15]⟩
abbrev S15 : Shape := ⟨1, ![15]⟩
abbrev S15x1 : Shape := ⟨2, ![15, 1]⟩
abbrev S15x128 : Shape := ⟨2, ![15, 128]⟩
abbrev S_ : Shape := ⟨0, ![]⟩
abbrev S90x128 : Shape := ⟨2, ![90, 128]⟩
abbrev S90x1x128 : Shape := ⟨3, ![90, 1, 128]⟩
abbrev S32768x128 : Shape := ⟨2, ![32768, 128]⟩
abbrev S512x1 : Shape := ⟨2, ![512, 1]⟩
abbrev S256x1 : Shape := ⟨2, ![256, 1]⟩
abbrev S128x1 : Shape := ⟨2, ![128, 1]⟩
abbrev S128x128 : Shape := ⟨2, ![128, 128]⟩
abbrev S512x128 : Shape := ⟨2, ![512, 128]⟩
abbrev S8x128 : Shape := ⟨2, ![8, 128]⟩
abbrev S1x1x128 : Shape := ⟨3, ![1, 1, 128]⟩
abbrev S1x128 : Shape := ⟨2, ![1, 128]⟩
abbrev S256x2x1x128 : Shape := ⟨4, ![256, 2, 1, 128]⟩
abbrev S256x1x1x128 : Shape := ⟨4, ![256, 1, 1, 128]⟩
abbrev S256x1x128 : Shape := ⟨3, ![256, 1, 128]⟩
abbrev S128x2x2x128 : Shape := ⟨4, ![128, 2, 2, 128]⟩
abbrev S128x1x2x128 : Shape := ⟨4, ![128, 1, 2, 128]⟩
abbrev S128x2x128 : Shape := ⟨3, ![128, 2, 128]⟩
abbrev S64x2x4x128 : Shape := ⟨4, ![64, 2, 4, 128]⟩
abbrev S64x1x4x128 : Shape := ⟨4, ![64, 1, 4, 128]⟩
abbrev S64x4x128 : Shape := ⟨3, ![64, 4, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S4096x128 : Shape := ⟨2, ![4096, 128]⟩
abbrev S512x4096 : Shape := ⟨2, ![512, 4096]⟩

abbrev nBuf : Space → Nat
  | .hbm => 77
  | .vmem => 14
  | .smem => 0
  | _ => 0

abbrev bufTy : (tb : Table) → Fin (tcTables nBuf tb) → BufTy
  | .hbm, ⟨0, _⟩ => ⟨S128x256, .f32⟩
  | .hbm, ⟨1, _⟩ => ⟨S3x15, .f32⟩
  | .hbm, ⟨2, _⟩ => ⟨S3x15, .f32⟩
  | .hbm, ⟨3, _⟩ => ⟨S512x32768, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S256x128, .f32⟩
  | .hbm, ⟨10, _⟩ => ⟨S1x15, .f32⟩
  | .hbm, ⟨11, _⟩ => ⟨S15, .f32⟩
  | .hbm, ⟨12, _⟩ => ⟨S15x1, .f32⟩
  | .hbm, ⟨13, _⟩ => ⟨S15x128, .f32⟩
  | .hbm, ⟨14, _⟩ => ⟨S_, .f32⟩
  | .hbm, ⟨15, _⟩ => ⟨S15x128, .f32⟩
  | .hbm, ⟨16, _⟩ => ⟨S15x128, .f32⟩
  | .hbm, ⟨17, _⟩ => ⟨S15x128, .f32⟩
  | .hbm, ⟨18, _⟩ => ⟨S15x128, .f32⟩
  | .hbm, ⟨19, _⟩ => ⟨S1x15, .f32⟩
  | .hbm, ⟨20, _⟩ => ⟨S15, .f32⟩
  | .hbm, ⟨21, _⟩ => ⟨S15x1, .f32⟩
  | .hbm, ⟨22, _⟩ => ⟨S15x128, .f32⟩
  | .hbm, ⟨23, _⟩ => ⟨S_, .f32⟩
  | .hbm, ⟨24, _⟩ => ⟨S15x128, .f32⟩
  | .hbm, ⟨25, _⟩ => ⟨S15x128, .f32⟩
  | .hbm, ⟨26, _⟩ => ⟨S15x128, .f32⟩
  | .hbm, ⟨27, _⟩ => ⟨S15x128, .f32⟩
  | .hbm, ⟨28, _⟩ => ⟨S1x15, .f32⟩
  | .hbm, ⟨29, _⟩ => ⟨S15, .f32⟩
  | .hbm, ⟨30, _⟩ => ⟨S15x1, .f32⟩
  | .hbm, ⟨31, _⟩ => ⟨S15x128, .f32⟩
  | .hbm, ⟨32, _⟩ => ⟨S_, .f32⟩
  | .hbm, ⟨33, _⟩ => ⟨S15x128, .f32⟩
  | .hbm, ⟨34, _⟩ => ⟨S15x128, .f32⟩
  | .hbm, ⟨35, _⟩ => ⟨S15x128, .f32⟩
  | .hbm, ⟨36, _⟩ => ⟨S15x128, .f32⟩
  | .hbm, ⟨37, _⟩ => ⟨S1x15, .f32⟩
  | .hbm, ⟨38, _⟩ => ⟨S15, .f32⟩
  | .hbm, ⟨39, _⟩ => ⟨S15x1, .f32⟩
  | .hbm, ⟨40, _⟩ => ⟨S15x128, .f32⟩
  | .hbm, ⟨41, _⟩ => ⟨S_, .f32⟩
  | .hbm, ⟨42, _⟩ => ⟨S15x128, .f32⟩
  | .hbm, ⟨43, _⟩ => ⟨S15x128, .f32⟩
  | .hbm, ⟨44, _⟩ => ⟨S15x128, .f32⟩
  | .hbm, ⟨45, _⟩ => ⟨S15x128, .f32⟩
  | .hbm, ⟨46, _⟩ => ⟨S1x15, .f32⟩
  | .hbm, ⟨47, _⟩ => ⟨S15, .f32⟩
  | .hbm, ⟨48, _⟩ => ⟨S15x1, .f32⟩
  | .hbm, ⟨49, _⟩ => ⟨S15x128, .f32⟩
  | .hbm, ⟨50, _⟩ => ⟨S_, .f32⟩
  | .hbm, ⟨51, _⟩ => ⟨S15x128, .f32⟩
  | .hbm, ⟨52, _⟩ => ⟨S15x128, .f32⟩
  | .hbm, ⟨53, _⟩ => ⟨S15x128, .f32⟩
  | .hbm, ⟨54, _⟩ => ⟨S15x128, .f32⟩
  | .hbm, ⟨55, _⟩ => ⟨S1x15, .f32⟩
  | .hbm, ⟨56, _⟩ => ⟨S15, .f32⟩
  | .hbm, ⟨57, _⟩ => ⟨S15x1, .f32⟩
  | .hbm, ⟨58, _⟩ => ⟨S15x128, .f32⟩
  | .hbm, ⟨59, _⟩ => ⟨S_, .f32⟩
  | .hbm, ⟨60, _⟩ => ⟨S15x128, .f32⟩
  | .hbm, ⟨61, _⟩ => ⟨S15x128, .f32⟩
  | .hbm, ⟨62, _⟩ => ⟨S15x128, .f32⟩
  | .hbm, ⟨63, _⟩ => ⟨S15x128, .f32⟩
  | .hbm, ⟨64, _⟩ => ⟨S90x128, .f32⟩
  | .hbm, ⟨65, _⟩ => ⟨S90x1x128, .f32⟩
  | .hbm, ⟨66, _⟩ => ⟨S_, .f32⟩
  | .hbm, ⟨67, _⟩ => ⟨S90x1x128, .f32⟩
  | .hbm, ⟨68, _⟩ => ⟨S90x1x128, .f32⟩
  | .hbm, ⟨69, _⟩ => ⟨S90x1x128, .f32⟩
  | .hbm, ⟨70, _⟩ => ⟨S90x1x128, .f32⟩
  | .hbm, ⟨71, _⟩ => ⟨S32768x128, .f32⟩
  | .hbm, ⟨72, _⟩ => ⟨S512x1, .f32⟩
  | .hbm, ⟨73, _⟩ => ⟨S256x1, .f32⟩
  | .hbm, ⟨74, _⟩ => ⟨S128x1, .f32⟩
  | .hbm, ⟨75, _⟩ => ⟨S128x128, .f32⟩
  | .hbm, ⟨76, _⟩ => ⟨S128x128, .f32⟩
  | .local _ .vmem, ⟨0, _⟩ => ⟨S90x1x128, .f32⟩
  | .local _ .vmem, ⟨1, _⟩ => ⟨S90x1x128, .f32⟩
  | .local _ .vmem, ⟨2, _⟩ => ⟨S32768x128, .f32⟩
  | .local _ .vmem, ⟨3, _⟩ => ⟨S4096x128, .f32⟩
  | .local _ .vmem, ⟨4, _⟩ => ⟨S4096x128, .f32⟩
  | .local _ .vmem, ⟨5, _⟩ => ⟨S512x4096, .f32⟩
  | .local _ .vmem, ⟨6, _⟩ => ⟨S512x4096, .f32⟩
  | .local _ .vmem, ⟨7, _⟩ => ⟨S256x512, .f32⟩
  | .local _ .vmem, ⟨8, _⟩ => ⟨S128x256, .f32⟩
  | .local _ .vmem, ⟨9, _⟩ => ⟨S512x1, .f32⟩
  | .local _ .vmem, ⟨10, _⟩ => ⟨S256x1, .f32⟩
  | .local _ .vmem, ⟨11, _⟩ => ⟨S128x1, .f32⟩
  | .local _ .vmem, ⟨12, _⟩ => ⟨S128x128, .f32⟩
  | .local _ .vmem, ⟨13, _⟩ => ⟨S512x128, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_cst_0 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_cst_1 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_cst_2 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_cst_3 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_v40 : Ref sig .tc := ⟨.hbm, 54, rfl⟩
abbrev main_call0_v41 : Ref sig .tc := ⟨.hbm, 55, rfl⟩
abbrev main_call0_v42 : Ref sig .tc := ⟨.hbm, 56, rfl⟩
abbrev main_call0_v43 : Ref sig .tc := ⟨.hbm, 57, rfl⟩
abbrev main_call0_v44 : Ref sig .tc := ⟨.hbm, 58, rfl⟩
abbrev main_call0_cst_4 : Ref sig .tc := ⟨.hbm, 59, rfl⟩
abbrev main_call0_v45 : Ref sig .tc := ⟨.hbm, 60, rfl⟩
abbrev main_call0_v46 : Ref sig .tc := ⟨.hbm, 61, rfl⟩
abbrev main_call0_v47 : Ref sig .tc := ⟨.hbm, 62, rfl⟩
abbrev main_call0_v48 : Ref sig .tc := ⟨.hbm, 63, rfl⟩
abbrev main_call0_v49 : Ref sig .tc := ⟨.hbm, 64, rfl⟩
abbrev main_call0_v50 : Ref sig .tc := ⟨.hbm, 65, rfl⟩
abbrev main_call0_cst_5 : Ref sig .tc := ⟨.hbm, 66, rfl⟩
abbrev main_call0_v51 : Ref sig .tc := ⟨.hbm, 67, rfl⟩
abbrev main_call0_v52 : Ref sig .tc := ⟨.hbm, 68, rfl⟩
abbrev main_call0_v53 : Ref sig .tc := ⟨.hbm, 69, rfl⟩
abbrev main_call0_v54 : Ref sig .tc := ⟨.hbm, 70, rfl⟩
abbrev main_call0_v55 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_v0 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c512_i32 : BitVec 32 := 512#32
  let v11 : BitVec 32 := Scalar.muli arg3 c512_i32
  let v12 : Index := Scalar.indexCast v11
  let c0_12 : Index := 0#32
  ![v12.toNat, 0]
@[reducible] def k0_t2_loop : Scf.Loop 32 :=
  let c0_i32_4 : BitVec 32 := 0#32
  let c3_i32 : BitVec 32 := 3#32
  let v8 : BitVec 32 := Scalar.addi c0_i32_4 c3_i32
  let c1_i32_5 : BitVec 32 := 1#32
  ⟨c0_i32_4, v8, c1_i32_5⟩
def k0_off2 (k0_t2 : Fin k0_t2_loop.trips) (c0_i32_11 : BitVec 32) : Fin 3 → Nat :=
  let c0_i32_4 : BitVec 32 := 0#32
  let c1_i32_5 : BitVec 32 := 1#32
  let arg3 : BitVec 32 := Scf.iv c0_i32_4 c1_i32_5 k0_t2
  let c2_i32 : BitVec 32 := 2#32
  let v10 : BitVec 32 := Scalar.muli arg3 c2_i32
  let c15_i32 : BitVec 32 := 15#32
  let v11 : BitVec 32 := Scalar.muli v10 c15_i32
  let v12 : BitVec 32 := Scalar.addi v11 c0_i32_11
  let v13 : Index := Scalar.indexCast v12
  let c0_12 : Index := 0#32
  let c0_13 : Index := 0#32
  ![v13.toNat, 0, 0]
@[reducible] def k0_t3_loop : Scf.Loop 32 :=
  let c0_i32_16 : BitVec 32 := 0#32
  let c64_i32_17 : BitVec 32 := 64#32
  let v23 : BitVec 32 := Scalar.addi c0_i32_16 c64_i32_17
  let c1_i32_18 : BitVec 32 := 1#32
  ⟨c0_i32_16, v23, c1_i32_18⟩
def k0_off3 (k0_t3 : Fin k0_t3_loop.trips) : Fin 2 → Nat :=
  let c0_i32_16 : BitVec 32 := 0#32
  let c1_i32_18 : BitVec 32 := 1#32
  let arg4 : BitVec 32 := Scf.iv c0_i32_16 c1_i32_18 k0_t3
  let c512_i32 : BitVec 32 := 512#32
  let v305 : BitVec 32 := Scalar.muli arg4 c512_i32
  let v306 : Index := Scalar.indexCast v305
  let c0_246 : Index := 0#32
  ![v306.toNat, 0]
@[reducible] def k0_t4_loop : Scf.Loop 32 :=
  let c0_i32_25 : BitVec 32 := 0#32
  let c64_i32_26 : BitVec 32 := 64#32
  let v35 : BitVec 32 := Scalar.addi c0_i32_25 c64_i32_26
  let c1_i32_27 : BitVec 32 := 1#32
  ⟨c0_i32_25, v35, c1_i32_27⟩
def k0_off4 (k0_t4 : Fin k0_t4_loop.trips) : Fin 2 → Nat :=
  let c0_i32_25 : BitVec 32 := 0#32
  let c1_i32_27 : BitVec 32 := 1#32
  let arg4 : BitVec 32 := Scf.iv c0_i32_25 c1_i32_27 k0_t4
  let c512_i32 : BitVec 32 := 512#32
  let v305 : BitVec 32 := Scalar.muli arg4 c512_i32
  let v306 : Index := Scalar.indexCast v305
  let c0_246 : Index := 0#32
  ![v306.toNat, 0]
@[reducible] def k0_t5_loop : Scf.Loop 32 :=
  let c0_i32_34 : BitVec 32 := 0#32
  let c64_i32_35 : BitVec 32 := 64#32
  let v47 : BitVec 32 := Scalar.addi c0_i32_34 c64_i32_35
  let c1_i32_36 : BitVec 32 := 1#32
  ⟨c0_i32_34, v47, c1_i32_36⟩
def k0_off5 (k0_t5 : Fin k0_t5_loop.trips) : Fin 2 → Nat :=
  let c0_i32_34 : BitVec 32 := 0#32
  let c1_i32_36 : BitVec 32 := 1#32
  let arg4 : BitVec 32 := Scf.iv c0_i32_34 c1_i32_36 k0_t5
  let c512_i32 : BitVec 32 := 512#32
  let v305 : BitVec 32 := Scalar.muli arg4 c512_i32
  let v306 : Index := Scalar.indexCast v305
  let c0_246 : Index := 0#32
  ![v306.toNat, 0]
@[reducible] def k0_t6_loop : Scf.Loop 32 :=
  let c0_i32_43 : BitVec 32 := 0#32
  let c64_i32_44 : BitVec 32 := 64#32
  let v59 : BitVec 32 := Scalar.addi c0_i32_43 c64_i32_44
  let c1_i32_45 : BitVec 32 := 1#32
  ⟨c0_i32_43, v59, c1_i32_45⟩
def k0_off6 (k0_t6 : Fin k0_t6_loop.trips) : Fin 2 → Nat :=
  let c0_i32_43 : BitVec 32 := 0#32
  let c1_i32_45 : BitVec 32 := 1#32
  let arg4 : BitVec 32 := Scf.iv c0_i32_43 c1_i32_45 k0_t6
  let c512_i32 : BitVec 32 := 512#32
  let v305 : BitVec 32 := Scalar.muli arg4 c512_i32
  let v306 : Index := Scalar.indexCast v305
  let c0_246 : Index := 0#32
  ![v306.toNat, 0]
@[reducible] def k0_t7_loop : Scf.Loop 32 :=
  let c0_i32_51 : BitVec 32 := 0#32
  let c64_i32_52 : BitVec 32 := 64#32
  let v71 : BitVec 32 := Scalar.addi c0_i32_51 c64_i32_52
  let c1_i32_53 : BitVec 32 := 1#32
  ⟨c0_i32_51, v71, c1_i32_53⟩
def k0_off7 (k0_t7 : Fin k0_t7_loop.trips) : Fin 2 → Nat :=
  let c0_i32_51 : BitVec 32 := 0#32
  let c1_i32_53 : BitVec 32 := 1#32
  let arg4 : BitVec 32 := Scf.iv c0_i32_51 c1_i32_53 k0_t7
  let c512_i32 : BitVec 32 := 512#32
  let v305 : BitVec 32 := Scalar.muli arg4 c512_i32
  let v306 : Index := Scalar.indexCast v305
  let c0_246 : Index := 0#32
  ![v306.toNat, 0]
@[reducible] def k0_t8_loop : Scf.Loop 32 :=
  let c0_i32_59 : BitVec 32 := 0#32
  let c64_i32_60 : BitVec 32 := 64#32
  let v83 : BitVec 32 := Scalar.addi c0_i32_59 c64_i32_60
  let c1_i32_61 : BitVec 32 := 1#32
  ⟨c0_i32_59, v83, c1_i32_61⟩
def k0_off8 (k0_t8 : Fin k0_t8_loop.trips) : Fin 2 → Nat :=
  let c0_i32_59 : BitVec 32 := 0#32
  let c1_i32_61 : BitVec 32 := 1#32
  let arg4 : BitVec 32 := Scf.iv c0_i32_59 c1_i32_61 k0_t8
  let c512_i32 : BitVec 32 := 512#32
  let v305 : BitVec 32 := Scalar.muli arg4 c512_i32
  let v306 : Index := Scalar.indexCast v305
  let c0_246 : Index := 0#32
  ![v306.toNat, 0]
@[reducible] def k0_t9_loop : Scf.Loop 32 :=
  let c0_i32_67 : BitVec 32 := 0#32
  let c64_i32_68 : BitVec 32 := 64#32
  let v95 : BitVec 32 := Scalar.addi c0_i32_67 c64_i32_68
  let c1_i32_69 : BitVec 32 := 1#32
  ⟨c0_i32_67, v95, c1_i32_69⟩
def k0_off9 (k0_t9 : Fin k0_t9_loop.trips) : Fin 2 → Nat :=
  let c0_i32_67 : BitVec 32 := 0#32
  let c1_i32_69 : BitVec 32 := 1#32
  let arg4 : BitVec 32 := Scf.iv c0_i32_67 c1_i32_69 k0_t9
  let c512_i32 : BitVec 32 := 512#32
  let v305 : BitVec 32 := Scalar.muli arg4 c512_i32
  let v306 : Index := Scalar.indexCast v305
  let c0_246 : Index := 0#32
  ![v306.toNat, 0]
@[reducible] def k0_t10_loop : Scf.Loop 32 :=
  let c0_i32_75 : BitVec 32 := 0#32
  let c64_i32_76 : BitVec 32 := 64#32
  let v107 : BitVec 32 := Scalar.addi c0_i32_75 c64_i32_76
  let c1_i32_77 : BitVec 32 := 1#32
  ⟨c0_i32_75, v107, c1_i32_77⟩
def k0_off10 (k0_t10 : Fin k0_t10_loop.trips) : Fin 2 → Nat :=
  let c0_i32_75 : BitVec 32 := 0#32
  let c1_i32_77 : BitVec 32 := 1#32
  let arg4 : BitVec 32 := Scf.iv c0_i32_75 c1_i32_77 k0_t10
  let c512_i32 : BitVec 32 := 512#32
  let v305 : BitVec 32 := Scalar.muli arg4 c512_i32
  let v306 : Index := Scalar.indexCast v305
  let c0_246 : Index := 0#32
  ![v306.toNat, 0]
@[reducible] def k0_t11_loop : Scf.Loop 32 :=
  let c0_i32_83 : BitVec 32 := 0#32
  let c64_i32_84 : BitVec 32 := 64#32
  let v119 : BitVec 32 := Scalar.addi c0_i32_83 c64_i32_84
  let c1_i32_85 : BitVec 32 := 1#32
  ⟨c0_i32_83, v119, c1_i32_85⟩
def k0_off11 (k0_t11 : Fin k0_t11_loop.trips) : Fin 2 → Nat :=
  let c0_i32_83 : BitVec 32 := 0#32
  let c1_i32_85 : BitVec 32 := 1#32
  let arg4 : BitVec 32 := Scf.iv c0_i32_83 c1_i32_85 k0_t11
  let c512_i32 : BitVec 32 := 512#32
  let v305 : BitVec 32 := Scalar.muli arg4 c512_i32
  let v306 : Index := Scalar.indexCast v305
  let c0_246 : Index := 0#32
  ![v306.toNat, 0]
@[reducible] def k0_t12_loop : Scf.Loop 32 :=
  let c9_i32 : BitVec 32 := 9#32
  let c6_i32_87 : BitVec 32 := 6#32
  let v120 : BitVec 32 := Scalar.addi c9_i32 c6_i32_87
  let c1_i32_88 : BitVec 32 := 1#32
  ⟨c9_i32, v120, c1_i32_88⟩
def k0_off12 (k0_t2 : Fin k0_t2_loop.trips) (k0_t12 : Fin k0_t12_loop.trips) : Fin 3 → Nat :=
  let c0_i32_4 : BitVec 32 := 0#32
  let c1_i32_5 : BitVec 32 := 1#32
  let arg3 : BitVec 32 := Scf.iv c0_i32_4 c1_i32_5 k0_t2
  let c2_i32 : BitVec 32 := 2#32
  let v10 : BitVec 32 := Scalar.muli arg3 c2_i32
  let c15_i32 : BitVec 32 := 15#32
  let v11 : BitVec 32 := Scalar.muli v10 c15_i32
  let c9_i32 : BitVec 32 := 9#32
  let c1_i32_88 : BitVec 32 := 1#32
  let arg4 : BitVec 32 := Scf.iv c9_i32 c1_i32_88 k0_t12
  let v305 : BitVec 32 := Scalar.addi v11 arg4
  let v306 : Index := Scalar.indexCast v305
  let c0_246 : Index := 0#32
  let c0_247 : Index := 0#32
  ![v306.toNat, 0, 0]
@[reducible] def k0_t13_loop : Scf.Loop 32 :=
  let c0_i32_250 : BitVec 32 := 0#32
  let c32_i32_251 : BitVec 32 := 32#32
  let v316 : BitVec 32 := Scalar.addi c0_i32_250 c32_i32_251
  let c1_i32_252 : BitVec 32 := 1#32
  ⟨c0_i32_250, v316, c1_i32_252⟩
def k0_off13 (k0_t12 : Fin k0_t12_loop.trips) (k0_t13 : Fin k0_t13_loop.trips) : Fin 2 → Nat :=
  let c0_i32_250 : BitVec 32 := 0#32
  let c1_i32_252 : BitVec 32 := 1#32
  let arg5 : BitVec 32 := Scf.iv c0_i32_250 c1_i32_252 k0_t13
  let c9_i32 : BitVec 32 := 9#32
  let c1_i32_88 : BitVec 32 := 1#32
  let arg4 : BitVec 32 := Scf.iv c9_i32 c1_i32_88 k0_t12
  let c9_i32_254 : BitVec 32 := 9#32
  let v317 : BitVec 32 := Scalar.subi arg4 c9_i32_254
  let v318 : BitVec 32 := Scalar.shrsi arg5 v317
  let c1_i32_255 : BitVec 32 := 1#32
  let v321 : BitVec 32 := Scalar.addi arg4 c1_i32_255
  let v322 : BitVec 32 := Scalar.shli v318 v321
  let v319 : BitVec 32 := Scalar.shli v318 v317
  let v320 : BitVec 32 := Scalar.subi arg5 v319
  let c9_i32_256 : BitVec 32 := 9#32
  let v323 : BitVec 32 := Scalar.shli v320 c9_i32_256
  let v324 : BitVec 32 := Scalar.addi v322 v323
  let v327 : Index := Scalar.indexCast v324
  let c0_258 : Index := 0#32
  ![v327.toNat, 0]
def k0_off14 (k0_t12 : Fin k0_t12_loop.trips) (k0_t13 : Fin k0_t13_loop.trips) : Fin 2 → Nat :=
  let c0_i32_250 : BitVec 32 := 0#32
  let c1_i32_252 : BitVec 32 := 1#32
  let arg5 : BitVec 32 := Scf.iv c0_i32_250 c1_i32_252 k0_t13
  let c9_i32 : BitVec 32 := 9#32
  let c1_i32_88 : BitVec 32 := 1#32
  let arg4 : BitVec 32 := Scf.iv c9_i32 c1_i32_88 k0_t12
  let c9_i32_254 : BitVec 32 := 9#32
  let v317 : BitVec 32 := Scalar.subi arg4 c9_i32_254
  let v318 : BitVec 32 := Scalar.shrsi arg5 v317
  let c1_i32_255 : BitVec 32 := 1#32
  let v321 : BitVec 32 := Scalar.addi arg4 c1_i32_255
  let v322 : BitVec 32 := Scalar.shli v318 v321
  let v319 : BitVec 32 := Scalar.shli v318 v317
  let v320 : BitVec 32 := Scalar.subi arg5 v319
  let c9_i32_256 : BitVec 32 := 9#32
  let v323 : BitVec 32 := Scalar.shli v320 c9_i32_256
  let v324 : BitVec 32 := Scalar.addi v322 v323
  let c1_i32_257 : BitVec 32 := 1#32
  let v325 : BitVec 32 := Scalar.shli c1_i32_257 arg4
  let v326 : BitVec 32 := Scalar.addi v324 v325
  let v332 : Index := Scalar.indexCast v326
  let c0_259 : Index := 0#32
  ![v332.toNat, 0]
@[reducible] def k0_t14_loop : Scf.Loop 32 :=
  let c0_i32_93 : BitVec 32 := 0#32
  let c64_i32_94 : BitVec 32 := 64#32
  let v128 : BitVec 32 := Scalar.addi c0_i32_93 c64_i32_94
  let c1_i32_95 : BitVec 32 := 1#32
  ⟨c0_i32_93, v128, c1_i32_95⟩
def k0_off15 (k0_t14 : Fin k0_t14_loop.trips) : Fin 2 → Nat :=
  let c0_i32_93 : BitVec 32 := 0#32
  let c1_i32_95 : BitVec 32 := 1#32
  let arg4 : BitVec 32 := Scf.iv c0_i32_93 c1_i32_95 k0_t14
  let c512_i32 : BitVec 32 := 512#32
  let v305 : BitVec 32 := Scalar.muli arg4 c512_i32
  let v306 : Index := Scalar.indexCast v305
  let c0_246 : Index := 0#32
  ![v306.toNat, 0]
@[reducible] def k0_t15_loop : Scf.Loop 32 :=
  let c0_i32_100 : BitVec 32 := 0#32
  let c64_i32_101 : BitVec 32 := 64#32
  let v136 : BitVec 32 := Scalar.addi c0_i32_100 c64_i32_101
  let c1_i32_102 : BitVec 32 := 1#32
  ⟨c0_i32_100, v136, c1_i32_102⟩
def k0_off16 (k0_t15 : Fin k0_t15_loop.trips) : Fin 2 → Nat :=
  let c0_i32_100 : BitVec 32 := 0#32
  let c1_i32_102 : BitVec 32 := 1#32
  let arg4 : BitVec 32 := Scf.iv c0_i32_100 c1_i32_102 k0_t15
  let c512_i32 : BitVec 32 := 512#32
  let v305 : BitVec 32 := Scalar.muli arg4 c512_i32
  let v306 : Index := Scalar.indexCast v305
  let c0_246 : Index := 0#32
  ![v306.toNat, 0]
@[reducible] def k0_t16_loop : Scf.Loop 32 :=
  let c0_i32_107 : BitVec 32 := 0#32
  let c64_i32_108 : BitVec 32 := 64#32
  let v144 : BitVec 32 := Scalar.addi c0_i32_107 c64_i32_108
  let c1_i32_109 : BitVec 32 := 1#32
  ⟨c0_i32_107, v144, c1_i32_109⟩
def k0_off17 (k0_t16 : Fin k0_t16_loop.trips) : Fin 2 → Nat :=
  let c0_i32_107 : BitVec 32 := 0#32
  let c1_i32_109 : BitVec 32 := 1#32
  let arg4 : BitVec 32 := Scf.iv c0_i32_107 c1_i32_109 k0_t16
  let c512_i32 : BitVec 32 := 512#32
  let v305 : BitVec 32 := Scalar.muli arg4 c512_i32
  let v306 : Index := Scalar.indexCast v305
  let c0_246 : Index := 0#32
  ![v306.toNat, 0]
@[reducible] def k0_t17_loop : Scf.Loop 32 :=
  let c0_i32_114 : BitVec 32 := 0#32
  let c64_i32_115 : BitVec 32 := 64#32
  let v152 : BitVec 32 := Scalar.addi c0_i32_114 c64_i32_115
  let c1_i32_116 : BitVec 32 := 1#32
  ⟨c0_i32_114, v152, c1_i32_116⟩
def k0_off18 (k0_t17 : Fin k0_t17_loop.trips) : Fin 2 → Nat :=
  let c0_i32_114 : BitVec 32 := 0#32
  let c1_i32_116 : BitVec 32 := 1#32
  let arg4 : BitVec 32 := Scf.iv c0_i32_114 c1_i32_116 k0_t17
  let c512_i32 : BitVec 32 := 512#32
  let v305 : BitVec 32 := Scalar.muli arg4 c512_i32
  let v306 : Index := Scalar.indexCast v305
  let c0_246 : Index := 0#32
  ![v306.toNat, 0]
@[reducible] def k0_t18_loop : Scf.Loop 32 :=
  let c0_i32_121 : BitVec 32 := 0#32
  let c64_i32_122 : BitVec 32 := 64#32
  let v160 : BitVec 32 := Scalar.addi c0_i32_121 c64_i32_122
  let c1_i32_123 : BitVec 32 := 1#32
  ⟨c0_i32_121, v160, c1_i32_123⟩
def k0_off19 (k0_t18 : Fin k0_t18_loop.trips) : Fin 2 → Nat :=
  let c0_i32_121 : BitVec 32 := 0#32
  let c1_i32_123 : BitVec 32 := 1#32
  let arg4 : BitVec 32 := Scf.iv c0_i32_121 c1_i32_123 k0_t18
  let c512_i32 : BitVec 32 := 512#32
  let v305 : BitVec 32 := Scalar.muli arg4 c512_i32
  let v306 : Index := Scalar.indexCast v305
  let c0_246 : Index := 0#32
  ![v306.toNat, 0]
@[reducible] def k0_t19_loop : Scf.Loop 32 :=
  let c0_i32_128 : BitVec 32 := 0#32
  let c64_i32_129 : BitVec 32 := 64#32
  let v168 : BitVec 32 := Scalar.addi c0_i32_128 c64_i32_129
  let c1_i32_130 : BitVec 32 := 1#32
  ⟨c0_i32_128, v168, c1_i32_130⟩
def k0_off20 (k0_t19 : Fin k0_t19_loop.trips) : Fin 2 → Nat :=
  let c0_i32_128 : BitVec 32 := 0#32
  let c1_i32_130 : BitVec 32 := 1#32
  let arg4 : BitVec 32 := Scf.iv c0_i32_128 c1_i32_130 k0_t19
  let c512_i32 : BitVec 32 := 512#32
  let v305 : BitVec 32 := Scalar.muli arg4 c512_i32
  let v306 : Index := Scalar.indexCast v305
  let c0_246 : Index := 0#32
  ![v306.toNat, 0]
@[reducible] def k0_t20_loop : Scf.Loop 32 :=
  let c0_i32_135 : BitVec 32 := 0#32
  let c64_i32_136 : BitVec 32 := 64#32
  let v176 : BitVec 32 := Scalar.addi c0_i32_135 c64_i32_136
  let c1_i32_137 : BitVec 32 := 1#32
  ⟨c0_i32_135, v176, c1_i32_137⟩
def k0_off21 (k0_t20 : Fin k0_t20_loop.trips) : Fin 2 → Nat :=
  let c0_i32_135 : BitVec 32 := 0#32
  let c1_i32_137 : BitVec 32 := 1#32
  let arg4 : BitVec 32 := Scf.iv c0_i32_135 c1_i32_137 k0_t20
  let c512_i32 : BitVec 32 := 512#32
  let v305 : BitVec 32 := Scalar.muli arg4 c512_i32
  let v306 : Index := Scalar.indexCast v305
  let c0_246 : Index := 0#32
  ![v306.toNat, 0]
@[reducible] def k0_t21_loop : Scf.Loop 32 :=
  let c0_i32_142 : BitVec 32 := 0#32
  let c64_i32_143 : BitVec 32 := 64#32
  let v184 : BitVec 32 := Scalar.addi c0_i32_142 c64_i32_143
  let c1_i32_144 : BitVec 32 := 1#32
  ⟨c0_i32_142, v184, c1_i32_144⟩
def k0_off22 (k0_t21 : Fin k0_t21_loop.trips) : Fin 2 → Nat :=
  let c0_i32_142 : BitVec 32 := 0#32
  let c1_i32_144 : BitVec 32 := 1#32
  let arg4 : BitVec 32 := Scf.iv c0_i32_142 c1_i32_144 k0_t21
  let c512_i32 : BitVec 32 := 512#32
  let v305 : BitVec 32 := Scalar.muli arg4 c512_i32
  let v306 : Index := Scalar.indexCast v305
  let c0_246 : Index := 0#32
  ![v306.toNat, 0]
@[reducible] def k0_t22_loop : Scf.Loop 32 :=
  let c0_i32_149 : BitVec 32 := 0#32
  let c32_i32 : BitVec 32 := 32#32
  let v192 : BitVec 32 := Scalar.addi c0_i32_149 c32_i32
  let c1_i32_150 : BitVec 32 := 1#32
  ⟨c0_i32_149, v192, c1_i32_150⟩
def k0_off23 (k0_t22 : Fin k0_t22_loop.trips) : Fin 2 → Nat :=
  let c0_i32_149 : BitVec 32 := 0#32
  let c1_i32_150 : BitVec 32 := 1#32
  let arg4 : BitVec 32 := Scf.iv c0_i32_149 c1_i32_150 k0_t22
  let c0_i32_246 : BitVec 32 := 0#32
  let v305 : BitVec 32 := Scalar.shrsi arg4 c0_i32_246
  let c10_i32 : BitVec 32 := 10#32
  let v308 : BitVec 32 := Scalar.shli v305 c10_i32
  let c0_i32_247 : BitVec 32 := 0#32
  let v306 : BitVec 32 := Scalar.shli v305 c0_i32_247
  let v307 : BitVec 32 := Scalar.subi arg4 v306
  let c9_i32_248 : BitVec 32 := 9#32
  let v309 : BitVec 32 := Scalar.shli v307 c9_i32_248
  let v310 : BitVec 32 := Scalar.addi v308 v309
  let v312 : Index := Scalar.indexCast v310
  let c0_249 : Index := 0#32
  ![v312.toNat, 0]
def k0_off24 (k0_t22 : Fin k0_t22_loop.trips) : Fin 2 → Nat :=
  let c0_i32_149 : BitVec 32 := 0#32
  let c1_i32_150 : BitVec 32 := 1#32
  let arg4 : BitVec 32 := Scf.iv c0_i32_149 c1_i32_150 k0_t22
  let c0_i32_246 : BitVec 32 := 0#32
  let v305 : BitVec 32 := Scalar.shrsi arg4 c0_i32_246
  let c10_i32 : BitVec 32 := 10#32
  let v308 : BitVec 32 := Scalar.shli v305 c10_i32
  let c0_i32_247 : BitVec 32 := 0#32
  let v306 : BitVec 32 := Scalar.shli v305 c0_i32_247
  let v307 : BitVec 32 := Scalar.subi arg4 v306
  let c9_i32_248 : BitVec 32 := 9#32
  let v309 : BitVec 32 := Scalar.shli v307 c9_i32_248
  let v310 : BitVec 32 := Scalar.addi v308 v309
  let c512_i32 : BitVec 32 := 512#32
  let v311 : BitVec 32 := Scalar.addi v310 c512_i32
  let v315 : Index := Scalar.indexCast v311
  let c0_250 : Index := 0#32
  ![v315.toNat, 0]
@[reducible] def k0_t23_loop : Scf.Loop 32 :=
  let c9_i32_152 : BitVec 32 := 9#32
  let c5_i32_153 : BitVec 32 := 5#32
  let v193 : BitVec 32 := Scalar.addi c9_i32_152 c5_i32_153
  let c1_i32_154 : BitVec 32 := 1#32
  ⟨c9_i32_152, v193, c1_i32_154⟩
@[reducible] def k0_t24_loop : Scf.Loop 32 :=
  let c0_i32_246 : BitVec 32 := 0#32
  let c16_i32 : BitVec 32 := 16#32
  let v305 : BitVec 32 := Scalar.addi c0_i32_246 c16_i32
  let c1_i32_247 : BitVec 32 := 1#32
  ⟨c0_i32_246, v305, c1_i32_247⟩
def k0_off25 (k0_t23 : Fin k0_t23_loop.trips) (k0_t24 : Fin k0_t24_loop.trips) : Fin 2 → Nat :=
  let c0_i32_246 : BitVec 32 := 0#32
  let c1_i32_247 : BitVec 32 := 1#32
  let arg5 : BitVec 32 := Scf.iv c0_i32_246 c1_i32_247 k0_t24
  let c9_i32_152 : BitVec 32 := 9#32
  let c1_i32_154 : BitVec 32 := 1#32
  let arg4 : BitVec 32 := Scf.iv c9_i32_152 c1_i32_154 k0_t23
  let c9_i32_249 : BitVec 32 := 9#32
  let v306 : BitVec 32 := Scalar.subi arg4 c9_i32_249
  let v307 : BitVec 32 := Scalar.shrsi arg5 v306
  let c2_i32_250 : BitVec 32 := 2#32
  let v310 : BitVec 32 := Scalar.addi arg4 c2_i32_250
  let v311 : BitVec 32 := Scalar.shli v307 v310
  let c1_i32_251 : BitVec 32 := 1#32
  let v312 : BitVec 32 := Scalar.shli c1_i32_251 arg4
  let v313 : BitVec 32 := Scalar.addi v311 v312
  let v308 : BitVec 32 := Scalar.shli v307 v306
  let v309 : BitVec 32 := Scalar.subi arg5 v308
  let c9_i32_252 : BitVec 32 := 9#32
  let v314 : BitVec 32 := Scalar.shli v309 c9_i32_252
  let v315 : BitVec 32 := Scalar.addi v313 v314
  let v318 : Index := Scalar.indexCast v315
  let c0_254 : Index := 0#32
  ![v318.toNat, 0]
def k0_off26 (k0_t23 : Fin k0_t23_loop.trips) (k0_t24 : Fin k0_t24_loop.trips) : Fin 2 → Nat :=
  let c0_i32_246 : BitVec 32 := 0#32
  let c1_i32_247 : BitVec 32 := 1#32
  let arg5 : BitVec 32 := Scf.iv c0_i32_246 c1_i32_247 k0_t24
  let c9_i32_152 : BitVec 32 := 9#32
  let c1_i32_154 : BitVec 32 := 1#32
  let arg4 : BitVec 32 := Scf.iv c9_i32_152 c1_i32_154 k0_t23
  let c9_i32_249 : BitVec 32 := 9#32
  let v306 : BitVec 32 := Scalar.subi arg4 c9_i32_249
  let v307 : BitVec 32 := Scalar.shrsi arg5 v306
  let c2_i32_250 : BitVec 32 := 2#32
  let v310 : BitVec 32 := Scalar.addi arg4 c2_i32_250
  let v311 : BitVec 32 := Scalar.shli v307 v310
  let c1_i32_251 : BitVec 32 := 1#32
  let v312 : BitVec 32 := Scalar.shli c1_i32_251 arg4
  let v313 : BitVec 32 := Scalar.addi v311 v312
  let v308 : BitVec 32 := Scalar.shli v307 v306
  let v309 : BitVec 32 := Scalar.subi arg5 v308
  let c9_i32_252 : BitVec 32 := 9#32
  let v314 : BitVec 32 := Scalar.shli v309 c9_i32_252
  let v315 : BitVec 32 := Scalar.addi v313 v314
  let c2_i32_253 : BitVec 32 := 2#32
  let v316 : BitVec 32 := Scalar.shli c2_i32_253 arg4
  let v317 : BitVec 32 := Scalar.addi v315 v316
  let v321 : Index := Scalar.indexCast v317
  let c0_255 : Index := 0#32
  ![v321.toNat, 0]
@[reducible] def k0_t25_loop : Scf.Loop 32 :=
  let c0_i32_156 : BitVec 32 := 0#32
  let c32_i32_157 : BitVec 32 := 32#32
  let v194 : BitVec 32 := Scalar.addi c0_i32_156 c32_i32_157
  let c1_i32_158 : BitVec 32 := 1#32
  ⟨c0_i32_156, v194, c1_i32_158⟩
def k0_off27 (k0_t25 : Fin k0_t25_loop.trips) : Fin 2 → Nat :=
  let c0_i32_156 : BitVec 32 := 0#32
  let c1_i32_158 : BitVec 32 := 1#32
  let arg4 : BitVec 32 := Scf.iv c0_i32_156 c1_i32_158 k0_t25
  let c5_i32_246 : BitVec 32 := 5#32
  let v305 : BitVec 32 := Scalar.shrsi arg4 c5_i32_246
  let c15_i32_247 : BitVec 32 := 15#32
  let v306 : BitVec 32 := Scalar.shli v305 c15_i32_247
  let c16384_i32 : BitVec 32 := 16384#32
  let v307 : BitVec 32 := Scalar.addi v306 c16384_i32
  let c31_i32 : BitVec 32 := 31#32
  let v308 : BitVec 32 := Scalar.andi arg4 c31_i32
  let c9_i32_248 : BitVec 32 := 9#32
  let v309 : BitVec 32 := Scalar.shli v308 c9_i32_248
  let v310 : BitVec 32 := Scalar.addi v307 v309
  let v311 : Index := Scalar.indexCast v310
  let c0_249 : Index := 0#32
  ![v311.toNat, 0]
def k0_off28 (k0_t2 : Fin k0_t2_loop.trips) (c0_i32_161 : BitVec 32) : Fin 3 → Nat :=
  let c0_i32_4 : BitVec 32 := 0#32
  let c1_i32_5 : BitVec 32 := 1#32
  let arg3 : BitVec 32 := Scf.iv c0_i32_4 c1_i32_5 k0_t2
  let c2_i32 : BitVec 32 := 2#32
  let v10 : BitVec 32 := Scalar.muli arg3 c2_i32
  let c15_i32 : BitVec 32 := 15#32
  let v11 : BitVec 32 := Scalar.muli v10 c15_i32
  let c15_i32_160 : BitVec 32 := 15#32
  let v195 : BitVec 32 := Scalar.addi v11 c15_i32_160
  let v196 : BitVec 32 := Scalar.addi v195 c0_i32_161
  let v197 : Index := Scalar.indexCast v196
  let c0_162 : Index := 0#32
  let c0_163 : Index := 0#32
  ![v197.toNat, 0, 0]
@[reducible] def k0_t26_loop : Scf.Loop 32 :=
  let c0_i32_166 : BitVec 32 := 0#32
  let c64_i32_167 : BitVec 32 := 64#32
  let v207 : BitVec 32 := Scalar.addi c0_i32_166 c64_i32_167
  let c1_i32_168 : BitVec 32 := 1#32
  ⟨c0_i32_166, v207, c1_i32_168⟩
def k0_off29 (k0_t26 : Fin k0_t26_loop.trips) : Fin 2 → Nat :=
  let c0_i32_166 : BitVec 32 := 0#32
  let c1_i32_168 : BitVec 32 := 1#32
  let arg4 : BitVec 32 := Scf.iv c0_i32_166 c1_i32_168 k0_t26
  let c512_i32 : BitVec 32 := 512#32
  let v305 : BitVec 32 := Scalar.muli arg4 c512_i32
  let v306 : Index := Scalar.indexCast v305
  let c0_246 : Index := 0#32
  ![v306.toNat, 0]
@[reducible] def k0_t27_loop : Scf.Loop 32 :=
  let c0_i32_175 : BitVec 32 := 0#32
  let c64_i32_176 : BitVec 32 := 64#32
  let v219 : BitVec 32 := Scalar.addi c0_i32_175 c64_i32_176
  let c1_i32_177 : BitVec 32 := 1#32
  ⟨c0_i32_175, v219, c1_i32_177⟩
def k0_off30 (k0_t27 : Fin k0_t27_loop.trips) : Fin 2 → Nat :=
  let c0_i32_175 : BitVec 32 := 0#32
  let c1_i32_177 : BitVec 32 := 1#32
  let arg4 : BitVec 32 := Scf.iv c0_i32_175 c1_i32_177 k0_t27
  let c512_i32 : BitVec 32 := 512#32
  let v305 : BitVec 32 := Scalar.muli arg4 c512_i32
  let v306 : Index := Scalar.indexCast v305
  let c0_246 : Index := 0#32
  ![v306.toNat, 0]
@[reducible] def k0_t28_loop : Scf.Loop 32 :=
  let c0_i32_184 : BitVec 32 := 0#32
  let c64_i32_185 : BitVec 32 := 64#32
  let v231 : BitVec 32 := Scalar.addi c0_i32_184 c64_i32_185
  let c1_i32_186 : BitVec 32 := 1#32
  ⟨c0_i32_184, v231, c1_i32_186⟩
def k0_off31 (k0_t28 : Fin k0_t28_loop.trips) : Fin 2 → Nat :=
  let c0_i32_184 : BitVec 32 := 0#32
  let c1_i32_186 : BitVec 32 := 1#32
  let arg4 : BitVec 32 := Scf.iv c0_i32_184 c1_i32_186 k0_t28
  let c512_i32 : BitVec 32 := 512#32
  let v305 : BitVec 32 := Scalar.muli arg4 c512_i32
  let v306 : Index := Scalar.indexCast v305
  let c0_246 : Index := 0#32
  ![v306.toNat, 0]
@[reducible] def k0_t29_loop : Scf.Loop 32 :=
  let c0_i32_193 : BitVec 32 := 0#32
  let c64_i32_194 : BitVec 32 := 64#32
  let v243 : BitVec 32 := Scalar.addi c0_i32_193 c64_i32_194
  let c1_i32_195 : BitVec 32 := 1#32
  ⟨c0_i32_193, v243, c1_i32_195⟩
def k0_off32 (k0_t29 : Fin k0_t29_loop.trips) : Fin 2 → Nat :=
  let c0_i32_193 : BitVec 32 := 0#32
  let c1_i32_195 : BitVec 32 := 1#32
  let arg4 : BitVec 32 := Scf.iv c0_i32_193 c1_i32_195 k0_t29
  let c512_i32 : BitVec 32 := 512#32
  let v305 : BitVec 32 := Scalar.muli arg4 c512_i32
  let v306 : Index := Scalar.indexCast v305
  let c0_246 : Index := 0#32
  ![v306.toNat, 0]
@[reducible] def k0_t30_loop : Scf.Loop 32 :=
  let c0_i32_202 : BitVec 32 := 0#32
  let c64_i32_203 : BitVec 32 := 64#32
  let v255 : BitVec 32 := Scalar.addi c0_i32_202 c64_i32_203
  let c1_i32_204 : BitVec 32 := 1#32
  ⟨c0_i32_202, v255, c1_i32_204⟩
def k0_off33 (k0_t30 : Fin k0_t30_loop.trips) : Fin 2 → Nat :=
  let c0_i32_202 : BitVec 32 := 0#32
  let c1_i32_204 : BitVec 32 := 1#32
  let arg4 : BitVec 32 := Scf.iv c0_i32_202 c1_i32_204 k0_t30
  let c512_i32 : BitVec 32 := 512#32
  let v305 : BitVec 32 := Scalar.muli arg4 c512_i32
  let v306 : Index := Scalar.indexCast v305
  let c0_246 : Index := 0#32
  ![v306.toNat, 0]
@[reducible] def k0_t31_loop : Scf.Loop 32 :=
  let c0_i32_211 : BitVec 32 := 0#32
  let c64_i32_212 : BitVec 32 := 64#32
  let v267 : BitVec 32 := Scalar.addi c0_i32_211 c64_i32_212
  let c1_i32_213 : BitVec 32 := 1#32
  ⟨c0_i32_211, v267, c1_i32_213⟩
def k0_off34 (k0_t31 : Fin k0_t31_loop.trips) : Fin 2 → Nat :=
  let c0_i32_211 : BitVec 32 := 0#32
  let c1_i32_213 : BitVec 32 := 1#32
  let arg4 : BitVec 32 := Scf.iv c0_i32_211 c1_i32_213 k0_t31
  let c512_i32 : BitVec 32 := 512#32
  let v305 : BitVec 32 := Scalar.muli arg4 c512_i32
  let v306 : Index := Scalar.indexCast v305
  let c0_246 : Index := 0#32
  ![v306.toNat, 0]
@[reducible] def k0_t32_loop : Scf.Loop 32 :=
  let c0_i32_220 : BitVec 32 := 0#32
  let c64_i32_221 : BitVec 32 := 64#32
  let v279 : BitVec 32 := Scalar.addi c0_i32_220 c64_i32_221
  let c1_i32_222 : BitVec 32 := 1#32
  ⟨c0_i32_220, v279, c1_i32_222⟩
def k0_off35 (k0_t32 : Fin k0_t32_loop.trips) : Fin 2 → Nat :=
  let c0_i32_220 : BitVec 32 := 0#32
  let c1_i32_222 : BitVec 32 := 1#32
  let arg4 : BitVec 32 := Scf.iv c0_i32_220 c1_i32_222 k0_t32
  let c512_i32 : BitVec 32 := 512#32
  let v305 : BitVec 32 := Scalar.muli arg4 c512_i32
  let v306 : Index := Scalar.indexCast v305
  let c0_246 : Index := 0#32
  ![v306.toNat, 0]
@[reducible] def k0_t33_loop : Scf.Loop 32 :=
  let c0_i32_229 : BitVec 32 := 0#32
  let c64_i32_230 : BitVec 32 := 64#32
  let v291 : BitVec 32 := Scalar.addi c0_i32_229 c64_i32_230
  let c1_i32_231 : BitVec 32 := 1#32
  ⟨c0_i32_229, v291, c1_i32_231⟩
def k0_off36 (k0_t33 : Fin k0_t33_loop.trips) : Fin 2 → Nat :=
  let c0_i32_229 : BitVec 32 := 0#32
  let c1_i32_231 : BitVec 32 := 1#32
  let arg4 : BitVec 32 := Scf.iv c0_i32_229 c1_i32_231 k0_t33
  let c512_i32 : BitVec 32 := 512#32
  let v305 : BitVec 32 := Scalar.muli arg4 c512_i32
  let v306 : Index := Scalar.indexCast v305
  let c0_246 : Index := 0#32
  ![v306.toNat, 0]
@[reducible] def k0_t34_loop : Scf.Loop 32 :=
  let c0_i32_238 : BitVec 32 := 0#32
  let c64_i32_239 : BitVec 32 := 64#32
  let v303 : BitVec 32 := Scalar.addi c0_i32_238 c64_i32_239
  let c1_i32_240 : BitVec 32 := 1#32
  ⟨c0_i32_238, v303, c1_i32_240⟩
def k0_off37 (k0_t34 : Fin k0_t34_loop.trips) : Fin 2 → Nat :=
  let c0_i32_238 : BitVec 32 := 0#32
  let c1_i32_240 : BitVec 32 := 1#32
  let arg4 : BitVec 32 := Scf.iv c0_i32_238 c1_i32_240 k0_t34
  let c512_i32 : BitVec 32 := 512#32
  let v305 : BitVec 32 := Scalar.muli arg4 c512_i32
  let v306 : Index := Scalar.indexCast v305
  let c0_246 : Index := 0#32
  ![v306.toNat, 0]
@[reducible] def k0_t35_loop : Scf.Loop 32 :=
  let c9_i32_242 : BitVec 32 := 9#32
  let c6_i32_243 : BitVec 32 := 6#32
  let v304 : BitVec 32 := Scalar.addi c9_i32_242 c6_i32_243
  let c1_i32_244 : BitVec 32 := 1#32
  ⟨c9_i32_242, v304, c1_i32_244⟩
def k0_off38 (k0_t2 : Fin k0_t2_loop.trips) (k0_t35 : Fin k0_t35_loop.trips) : Fin 3 → Nat :=
  let c0_i32_4 : BitVec 32 := 0#32
  let c1_i32_5 : BitVec 32 := 1#32
  let arg3 : BitVec 32 := Scf.iv c0_i32_4 c1_i32_5 k0_t2
  let c2_i32 : BitVec 32 := 2#32
  let v10 : BitVec 32 := Scalar.muli arg3 c2_i32
  let c15_i32 : BitVec 32 := 15#32
  let v11 : BitVec 32 := Scalar.muli v10 c15_i32
  let c15_i32_160 : BitVec 32 := 15#32
  let v195 : BitVec 32 := Scalar.addi v11 c15_i32_160
  let c9_i32_242 : BitVec 32 := 9#32
  let c1_i32_244 : BitVec 32 := 1#32
  let arg4 : BitVec 32 := Scf.iv c9_i32_242 c1_i32_244 k0_t35
  let v305 : BitVec 32 := Scalar.addi v195 arg4
  let v306 : Index := Scalar.indexCast v305
  let c0_246 : Index := 0#32
  let c0_247 : Index := 0#32
  ![v306.toNat, 0, 0]
@[reducible] def k0_t36_loop : Scf.Loop 32 :=
  let c0_i32_250 : BitVec 32 := 0#32
  let c32_i32_251 : BitVec 32 := 32#32
  let v316 : BitVec 32 := Scalar.addi c0_i32_250 c32_i32_251
  let c1_i32_252 : BitVec 32 := 1#32
  ⟨c0_i32_250, v316, c1_i32_252⟩
def k0_off39 (k0_t35 : Fin k0_t35_loop.trips) (k0_t36 : Fin k0_t36_loop.trips) : Fin 2 → Nat :=
  let c0_i32_250 : BitVec 32 := 0#32
  let c1_i32_252 : BitVec 32 := 1#32
  let arg5 : BitVec 32 := Scf.iv c0_i32_250 c1_i32_252 k0_t36
  let c9_i32_242 : BitVec 32 := 9#32
  let c1_i32_244 : BitVec 32 := 1#32
  let arg4 : BitVec 32 := Scf.iv c9_i32_242 c1_i32_244 k0_t35
  let c9_i32_254 : BitVec 32 := 9#32
  let v317 : BitVec 32 := Scalar.subi arg4 c9_i32_254
  let v318 : BitVec 32 := Scalar.shrsi arg5 v317
  let c1_i32_255 : BitVec 32 := 1#32
  let v321 : BitVec 32 := Scalar.addi arg4 c1_i32_255
  let v322 : BitVec 32 := Scalar.shli v318 v321
  let v319 : BitVec 32 := Scalar.shli v318 v317
  let v320 : BitVec 32 := Scalar.subi arg5 v319
  let c9_i32_256 : BitVec 32 := 9#32
  let v323 : BitVec 32 := Scalar.shli v320 c9_i32_256
  let v324 : BitVec 32 := Scalar.addi v322 v323
  let v327 : Index := Scalar.indexCast v324
  let c0_258 : Index := 0#32
  ![v327.toNat, 0]
def k0_off40 (k0_t35 : Fin k0_t35_loop.trips) (k0_t36 : Fin k0_t36_loop.trips) : Fin 2 → Nat :=
  let c0_i32_250 : BitVec 32 := 0#32
  let c1_i32_252 : BitVec 32 := 1#32
  let arg5 : BitVec 32 := Scf.iv c0_i32_250 c1_i32_252 k0_t36
  let c9_i32_242 : BitVec 32 := 9#32
  let c1_i32_244 : BitVec 32 := 1#32
  let arg4 : BitVec 32 := Scf.iv c9_i32_242 c1_i32_244 k0_t35
  let c9_i32_254 : BitVec 32 := 9#32
  let v317 : BitVec 32 := Scalar.subi arg4 c9_i32_254
  let v318 : BitVec 32 := Scalar.shrsi arg5 v317
  let c1_i32_255 : BitVec 32 := 1#32
  let v321 : BitVec 32 := Scalar.addi arg4 c1_i32_255
  let v322 : BitVec 32 := Scalar.shli v318 v321
  let v319 : BitVec 32 := Scalar.shli v318 v317
  let v320 : BitVec 32 := Scalar.subi arg5 v319
  let c9_i32_256 : BitVec 32 := 9#32
  let v323 : BitVec 32 := Scalar.shli v320 c9_i32_256
  let v324 : BitVec 32 := Scalar.addi v322 v323
  let c1_i32_257 : BitVec 32 := 1#32
  let v325 : BitVec 32 := Scalar.shli c1_i32_257 arg4
  let v326 : BitVec 32 := Scalar.addi v324 v325
  let v332 : Index := Scalar.indexCast v326
  let c0_259 : Index := 0#32
  ![v332.toNat, 0]
@[reducible] def k0_t37_loop : Scf.Loop 32 :=
  let c0_i32_7 : BitVec 32 := 0#32
  let c64_i32_8 : BitVec 32 := 64#32
  let v9 : BitVec 32 := Scalar.addi c0_i32_7 c64_i32_8
  let c1_i32_9 : BitVec 32 := 1#32
  ⟨c0_i32_7, v9, c1_i32_9⟩
def k0_off41 (k0_t37 : Fin k0_t37_loop.trips) : Fin 2 → Nat :=
  let c0_i32_7 : BitVec 32 := 0#32
  let c1_i32_9 : BitVec 32 := 1#32
  let arg3 : BitVec 32 := Scf.iv c0_i32_7 c1_i32_9 k0_t37
  let c512_i32 : BitVec 32 := 512#32
  let v10 : BitVec 32 := Scalar.muli arg3 c512_i32
  let v11 : Index := Scalar.indexCast v10
  let c0_11 : Index := 0#32
  ![v11.toNat, 0]
abbrev stage0_0 : Fin 1 → Memref sig .tc .vmem S90x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S90x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S128x256 : Shape := ⟨2, ![128, 256]⟩
abbrev S3x15 : Shape := ⟨2, ![3, 15]⟩
abbrev S512x32768 : Shape := ⟨2, ![512, 32768]⟩
abbrev S512 : Shape := ⟨1, ![512]⟩
abbrev S256x512 : Shape := ⟨2, ![256, 512]⟩
abbrev S256 : Shape := ⟨1, ![256]⟩
abbrev S128 : Shape := ⟨1, ![128]⟩
abbrev S135 : Shape := ⟨1, ![135]⟩
abbrev S3x15x1 : Shape := ⟨3, ![3, 15, 1]⟩
abbrev S128x15 : Shape := ⟨2, ![128, 15]⟩
abbrev S15x128 : Shape := ⟨2, ![15, 128]⟩
abbrev S1x15x128 : Shape := ⟨3, ![1, 15, 128]⟩
abbrev S_ : Shape := ⟨0, ![]⟩
abbrev S3x15x128 : Shape := ⟨3, ![3, 15, 128]⟩
abbrev S3x45x128 : Shape := ⟨3, ![3, 45, 128]⟩
abbrev S135x128 : Shape := ⟨2, ![135, 128]⟩
abbrev S32768 : Shape := ⟨1, ![32768]⟩
abbrev S128x32768 : Shape := ⟨2, ![128, 32768]⟩
abbrev S1 : Shape := ⟨1, ![1]⟩
abbrev S1x128 : Shape := ⟨2, ![1, 128]⟩
abbrev S32768x1 : Shape := ⟨2, ![32768, 1]⟩
abbrev S128x1 : Shape := ⟨2, ![128, 1]⟩
abbrev S32768x512 : Shape := ⟨2, ![32768, 512]⟩
abbrev S128x512 : Shape := ⟨2, ![128, 512]⟩
abbrev S1x512 : Shape := ⟨2, ![1, 512]⟩
abbrev S512x256 : Shape := ⟨2, ![512, 256]⟩
abbrev S1x256 : Shape := ⟨2, ![1, 256]⟩
abbrev S256x128 : Shape := ⟨2, ![256, 128]⟩
abbrev S128x128 : Shape := ⟨2, ![128, 128]⟩

abbrev nBuf : Space → Nat
  | .hbm => 143
  | .vmem => 0
  | .smem => 0
  | _ => 0

abbrev hbmTy0_0 (i : Nat) : BufTy := match i % 128 with
  | 0 => ⟨S128x256, .f32⟩
  | 1 => ⟨S3x15, .f32⟩
  | 2 => ⟨S3x15, .f32⟩
  | 3 => ⟨S512x32768, .f32⟩
  | 4 => ⟨S512, .f32⟩
  | 5 => ⟨S256x512, .f32⟩
  | 6 => ⟨S256, .f32⟩
  | 7 => ⟨S128x256, .f32⟩
  | 8 => ⟨S128, .f32⟩
  | 9 => ⟨S135, .i1⟩
  | 10 => ⟨S135, .i32⟩
  | 11 => ⟨S135, .i32⟩
  | 12 => ⟨S3x15x1, .f32⟩
  | 13 => ⟨S128x15, .f32⟩
  | 14 => ⟨S15x128, .f32⟩
  | 15 => ⟨S1x15x128, .f32⟩
  | 16 => ⟨S_, .f32⟩
  | 17 => ⟨S1x15x128, .f32⟩
  | 18 => ⟨S1x15x128, .f32⟩
  | 19 => ⟨S3x15x128, .f32⟩
  | 20 => ⟨S3x15x128, .f32⟩
  | 21 => ⟨S3x15x128, .f32⟩
  | 22 => ⟨S3x15x1, .f32⟩
  | 23 => ⟨S128x15, .f32⟩
  | 24 => ⟨S15x128, .f32⟩
  | 25 => ⟨S1x15x128, .f32⟩
  | 26 => ⟨S_, .f32⟩
  | 27 => ⟨S1x15x128, .f32⟩
  | 28 => ⟨S1x15x128, .f32⟩
  | 29 => ⟨S3x15x128, .f32⟩
  | 30 => ⟨S3x15x128, .f32⟩
  | 31 => ⟨S3x15x128, .f32⟩
  | 32 => ⟨S_, .f32⟩
  | 33 => ⟨S3x15x128, .f32⟩
  | 34 => ⟨S3x45x128, .f32⟩
  | 35 => ⟨S135x128, .f32⟩
  | 36 => ⟨S32768, .i32⟩
  | 37 => ⟨S_, .i32⟩
  | 38 => ⟨S32768, .i32⟩
  | 39 => ⟨S32768, .i1⟩
  | 40 => ⟨S_, .f32⟩
  | 41 => ⟨S_, .f32⟩
  | 42 => ⟨S32768, .f32⟩
  | 43 => ⟨S32768, .f32⟩
  | 44 => ⟨S32768, .f32⟩
  | 45 => ⟨S128x32768, .f32⟩
  | 46 => ⟨S_, .i32⟩
  | 47 => ⟨S135, .i1⟩
  | 48 => ⟨S135, .i32⟩
  | 49 => ⟨S135, .i32⟩
  | 50 => ⟨S135x128, .f32⟩
  | 51 => ⟨S_, .i32⟩
  | 52 => ⟨S128x32768, .f32⟩
  | 53 => ⟨S_, .i32⟩
  | 54 => ⟨S_, .i1⟩
  | 55 => ⟨S1, .i1⟩
  | 56 => ⟨S_, .i1⟩
  | 57 => ⟨S1, .i32⟩
  | 58 => ⟨S_, .i32⟩
  | 59 => ⟨S1, .i32⟩
  | 60 => ⟨S_, .i32⟩
  | 61 => ⟨S_, .i32⟩
  | 62 => ⟨S1x128, .f32⟩
  | 63 => ⟨S128, .f32⟩
  | 64 => ⟨S32768, .i32⟩
  | 65 => ⟨S32768, .i32⟩
  | 66 => ⟨S32768, .i32⟩
  | 67 => ⟨S_, .i32⟩
  | 68 => ⟨S32768, .i32⟩
  | 69 => ⟨S32768, .i32⟩
  | 70 => ⟨S32768, .i32⟩
  | 71 => ⟨S32768, .i32⟩
  | 72 => ⟨S32768, .i32⟩
  | 73 => ⟨S32768x1, .i32⟩
  | 74 => ⟨S128x32768, .f32⟩
  | 75 => ⟨S_, .f32⟩
  | 76 => ⟨S128, .f32⟩
  | 77 => ⟨S128, .f32⟩
  | 78 => ⟨S128, .f32⟩
  | 79 => ⟨S128x1, .f32⟩
  | 80 => ⟨S_, .f32⟩
  | 81 => ⟨S128, .f32⟩
  | 82 => ⟨S128, .f32⟩
  | 83 => ⟨S128, .f32⟩
  | 84 => ⟨S128x1, .f32⟩
  | 85 => ⟨S32768, .i32⟩
  | 86 => ⟨S_, .i32⟩
  | 87 => ⟨S_, .i32⟩
  | 88 => ⟨S32768, .i32⟩
  | 89 => ⟨S32768, .i32⟩
  | 90 => ⟨S32768x1, .i32⟩
  | 91 => ⟨S128x32768, .f32⟩
  | 92 => ⟨S32768, .i32⟩
  | 93 => ⟨S32768, .i32⟩
  | 94 => ⟨S_, .i32⟩
  | 95 => ⟨S32768, .i32⟩
  | 96 => ⟨S32768, .i32⟩
  | 97 => ⟨S_, .i32⟩
  | 98 => ⟨S32768, .i32⟩
  | 99 => ⟨S32768, .i1⟩
  | 100 => ⟨S128x32768, .f32⟩
  | 101 => ⟨S128x32768, .f32⟩
  | 102 => ⟨S128x32768, .f32⟩
  | 103 => ⟨S128x1, .f32⟩
  | 104 => ⟨S128x32768, .f32⟩
  | 105 => ⟨S128x32768, .f32⟩
  | 106 => ⟨S128x32768, .f32⟩
  | 107 => ⟨S128x32768, .f32⟩
  | 108 => ⟨S128x32768, .f32⟩
  | 109 => ⟨S128x32768, .f32⟩
  | 110 => ⟨S128x32768, .f32⟩
  | 111 => ⟨S128x32768, .f32⟩
  | 112 => ⟨S128x32768, .f32⟩
  | 113 => ⟨S128x32768, .f32⟩
  | 114 => ⟨S128x32768, .f32⟩
  | 115 => ⟨S128x32768, .i1⟩
  | 116 => ⟨S128x32768, .f32⟩
  | 117 => ⟨S128x32768, .f32⟩
  | 118 => ⟨S128x32768, .f32⟩
  | 119 => ⟨S_, .i32⟩
  | 120 => ⟨S_, .i32⟩
  | 121 => ⟨S128x32768, .f32⟩
  | 122 => ⟨S32768x512, .f32⟩
  | 123 => ⟨S128x512, .f32⟩
  | 124 => ⟨S1x512, .f32⟩
  | 125 => ⟨S128x512, .f32⟩
  | 126 => ⟨S128x512, .f32⟩
  | 127 => ⟨S_, .f32⟩
  | _ => ⟨S128x256, .f32⟩

abbrev hbmTy0_1 (i : Nat) : BufTy := match i % 128 with
  | 0 => ⟨S128x512, .f32⟩
  | 1 => ⟨S128x512, .f32⟩
  | 2 => ⟨S512x256, .f32⟩
  | 3 => ⟨S128x256, .f32⟩
  | 4 => ⟨S1x256, .f32⟩
  | 5 => ⟨S128x256, .f32⟩
  | 6 => ⟨S128x256, .f32⟩
  | 7 => ⟨S_, .f32⟩
  | 8 => ⟨S128x256, .f32⟩
  | 9 => ⟨S128x256, .f32⟩
  | 10 => ⟨S256x128, .f32⟩
  | 11 => ⟨S128x128, .f32⟩
  | 12 => ⟨S1x128, .f32⟩
  | 13 => ⟨S128x128, .f32⟩
  | 14 => ⟨S128x128, .f32⟩
  | _ => ⟨S128x256, .f32⟩

abbrev hbmTy (i : Nat) : BufTy := match i / 128 with
  | 0 => hbmTy0_0 i
  | 1 => hbmTy0_1 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev main_v26_3 : Ref sig .tc := ⟨.hbm, 50, rfl⟩
abbrev main_v26_4 : Ref sig .tc := ⟨.hbm, 51, rfl⟩
abbrev main_v26_5 : Ref sig .tc := ⟨.hbm, 52, rfl⟩
abbrev main_while0c_c_13 : Ref sig .tc := ⟨.hbm, 53, rfl⟩
abbrev main_while0c_v45 : Ref sig .tc := ⟨.hbm, 54, rfl⟩
abbrev main_while0b_call1_v0 : Ref sig .tc := ⟨.hbm, 55, rfl⟩
abbrev main_while0b_v45 : Ref sig .tc := ⟨.hbm, 56, rfl⟩
abbrev main_while0b_call2_v0 : Ref sig .tc := ⟨.hbm, 57, rfl⟩
abbrev main_while0b_v46 : Ref sig .tc := ⟨.hbm, 58, rfl⟩
abbrev main_while0b_call3_v0 : Ref sig .tc := ⟨.hbm, 59, rfl⟩
abbrev main_while0b_v47 : Ref sig .tc := ⟨.hbm, 60, rfl⟩
abbrev main_while0b_call4_c : Ref sig .tc := ⟨.hbm, 61, rfl⟩
abbrev main_while0b_call4_v0 : Ref sig .tc := ⟨.hbm, 62, rfl⟩
abbrev main_while0b_v48 : Ref sig .tc := ⟨.hbm, 63, rfl⟩
abbrev main_while0b_v49 : Ref sig .tc := ⟨.hbm, 64, rfl⟩
abbrev main_while0b_v50 : Ref sig .tc := ⟨.hbm, 65, rfl⟩
abbrev main_while0b_v51 : Ref sig .tc := ⟨.hbm, 66, rfl⟩
abbrev main_while0b_c_13 : Ref sig .tc := ⟨.hbm, 67, rfl⟩
abbrev main_while0b_v52 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_v57 : Ref sig .tc := ⟨.hbm, 73, rfl⟩
abbrev main_while0b_v58 : Ref sig .tc := ⟨.hbm, 74, rfl⟩
abbrev main_while0b_cst_14 : Ref sig .tc := ⟨.hbm, 75, rfl⟩
abbrev main_while0b_v59 : Ref sig .tc := ⟨.hbm, 76, rfl⟩
abbrev main_while0b_v60 : Ref sig .tc := ⟨.hbm, 77, rfl⟩
abbrev main_while0b_v61 : Ref sig .tc := ⟨.hbm, 78, rfl⟩
abbrev main_while0b_v62 : Ref sig .tc := ⟨.hbm, 79, rfl⟩
abbrev main_while0b_cst_15 : Ref sig .tc := ⟨.hbm, 80, rfl⟩
abbrev main_while0b_v63 : Ref sig .tc := ⟨.hbm, 81, rfl⟩
abbrev main_while0b_v64 : Ref sig .tc := ⟨.hbm, 82, rfl⟩
abbrev main_while0b_v65 : Ref sig .tc := ⟨.hbm, 83, rfl⟩
abbrev main_while0b_v66 : Ref sig .tc := ⟨.hbm, 84, rfl⟩
abbrev main_while0b_v67 : Ref sig .tc := ⟨.hbm, 85, rfl⟩
abbrev main_while0b_c_16 : Ref sig .tc := ⟨.hbm, 86, rfl⟩
abbrev main_while0b_v68 : Ref sig .tc := ⟨.hbm, 87, rfl⟩
abbrev main_while0b_v69 : Ref sig .tc := ⟨.hbm, 88, rfl⟩
abbrev main_while0b_v70 : Ref sig .tc := ⟨.hbm, 89, rfl⟩
abbrev main_while0b_v71 : Ref sig .tc := ⟨.hbm, 90, rfl⟩
abbrev main_while0b_v72 : Ref sig .tc := ⟨.hbm, 91, rfl⟩
abbrev main_while0b_v73 : Ref sig .tc := ⟨.hbm, 92, rfl⟩
abbrev main_while0b_v74 : Ref sig .tc := ⟨.hbm, 93, rfl⟩
abbrev main_while0b_c_17 : Ref sig .tc := ⟨.hbm, 94, rfl⟩
abbrev main_while0b_v75 : Ref sig .tc := ⟨.hbm, 95, rfl⟩
abbrev main_while0b_v76 : Ref sig .tc := ⟨.hbm, 96, rfl⟩
abbrev main_while0b_c_18 : Ref sig .tc := ⟨.hbm, 97, rfl⟩
abbrev main_while0b_v77 : Ref sig .tc := ⟨.hbm, 98, rfl⟩
abbrev main_while0b_v78 : Ref sig .tc := ⟨.hbm, 99, rfl⟩
abbrev main_while0b_v79 : Ref sig .tc := ⟨.hbm, 100, rfl⟩
abbrev main_while0b_v80 : Ref sig .tc := ⟨.hbm, 101, rfl⟩
abbrev main_while0b_v81 : Ref sig .tc := ⟨.hbm, 102, rfl⟩
abbrev main_while0b_v82 : Ref sig .tc := ⟨.hbm, 103, rfl⟩
abbrev main_while0b_v83 : Ref sig .tc := ⟨.hbm, 104, rfl⟩
abbrev main_while0b_v84 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_call5_v0 : Ref sig .tc := ⟨.hbm, 115, rfl⟩
abbrev main_while0b_v94 : Ref sig .tc := ⟨.hbm, 116, rfl⟩
abbrev main_while0b_call6_v0 : Ref sig .tc := ⟨.hbm, 117, rfl⟩
abbrev main_while0b_v95 : Ref sig .tc := ⟨.hbm, 118, rfl⟩
abbrev main_while0b_c_19 : Ref sig .tc := ⟨.hbm, 119, rfl⟩
abbrev main_while0b_v96 : Ref sig .tc := ⟨.hbm, 120, rfl⟩
abbrev main_v27 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_call7_cst : Ref sig .tc := ⟨.hbm, 127, rfl⟩
abbrev main_call7_v0 : Ref sig .tc := ⟨.hbm, 128, rfl⟩
abbrev main_v33 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_call8_cst : Ref sig .tc := ⟨.hbm, 135, rfl⟩
abbrev main_call8_v0 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩

abbrev nD : Nat := 1
abbrev τ : Topo := Topo.v7x

variable {F : FTy → Type} [FloatOps F]

abbrev main_while0_count : Scf.Loop 32 := ⟨0#32, 135#32, 1#32⟩
-- ==== Proof.Common.Rows.lean ====
/-
  Reading and storing blocks of whole rows of a two-dimensional array, and loops whose trips each own some of the rows.
-/
module

public import Idealize.ShloMosaic.Lib.VecWindow
public import Idealize.ShloMosaic.Lib.WritesUnit
public import Idealize.ShloMosaic.Lib.ValueIdxCore

@[expose] public section

namespace Cert.Rows

open Idealize.ShloMosaic Idealize.ShloMosaic.ValueIdx

/-- The first `k` of `n` steps, one after another. -/
def iterate {C : Type} {n : ℕ} (step : Fin n → C → C) (x : C) : ℕ → C
  | 0 => x
  | k + 1 => if h : k < n then step ⟨k, h⟩ (iterate step x k) else iterate step x k

theorem iterate_succ {C : Type} {n : ℕ} (step : Fin n → C → C) (x : C) (k : Fin n) :
    iterate step x (k.val + 1) = step k (iterate step x k.val) := dif_pos k.isLt

/-- The two shapes: a block of 512 rows, and the whole array of 64 blocks. -/
abbrev Blk : Shape := ⟨2, ![512, 128]⟩
abbrev Arr : Shape := ⟨2, ![32768, 128]⟩

/-- An array's entry from its row (taken around the end) and its column. -/
abbrev at2 (i : ℕ) (j : Fin 128) : Arr.Idx := ix2 (⟨i % 32768, Nat.mod_lt _ (by norm_num)⟩ : Fin 32768) j
/-- A block's entry from its row (taken around the end) and its column. -/
abbrev in2 (i : ℕ) (j : Fin 128) : Blk.Idx := ix2 (⟨i % 512, Nat.mod_lt _ (by norm_num)⟩ : Fin 512) j

/-- An array entry's row, its block and its column. -/
abbrev row (y : Arr.Idx) : ℕ := (y (0 : Fin 2)).val
abbrev blk (y : Arr.Idx) : ℕ := (y (0 : Fin 2)).val / 512
abbrev col (y : Arr.Idx) : Fin 128 := y (1 : Fin 2)

variable {α : Type}

/-- The block of 512 rows that starts at row `o`. -/
def get (o : ℕ) (X : Arr.Idx → α) : Blk.Idx → α := fun z => X (at2 (o + (z (0 : Fin 2)).val) (z (1 : Fin 2)))

/-- The array with the 512 rows from `o` on replaced. -/
def put (o : ℕ) (w : Blk.Idx → α) (X : Arr.Idx → α) : Arr.Idx → α := fun y =>
  if o ≤ row y ∧ row y < o + 512 then w (in2 (row y - o) (col y)) else X y

theorem row_lt (y : Arr.Idx) : row y < 32768 := (y (0 : Fin 2)).isLt
theorem blk_lt (y : Arr.Idx) : blk y < 64 := by have := row_lt y; simp only [row, blk] at *; omega

theorem at2_row (y : Arr.Idx) : at2 (row y) (col y) = y := by
  rw [eq_ix2 y]
  exact congrArg (fun a => ix2 a _) (Fin.ext (Nat.mod_eq_of_lt (row_lt y)))

/-- An entry of the stored block, and an entry outside of it. -/
theorem put_blk (k : ℕ) (w : Blk.Idx → α) (X : Arr.Idx → α) (y : Arr.Idx) (h : blk y = k) :
    put (512 * k) w X y = w (in2 (row y) (col y)) := by
  have e : (row y - 512 * k) % 512 = row y % 512 := by simp only [row, blk] at *; omega
  unfold put
  rw [if_pos (by simp only [row, blk] at *; omega)]
  exact congrArg w (congrArg (fun a => ix2 a _) (Fin.ext e))

theorem put_ne (k : ℕ) (w : Blk.Idx → α) (X : Arr.Idx → α) (y : Arr.Idx) (h : blk y ≠ k) :
    put (512 * k) w X y = X y := if_neg (by simp only [row, blk] at *; omega)

/-- A block is read off the block's own entries. -/
theorem get_congr (k : ℕ) (hk : k < 64) (X X' : Arr.Idx → α) (h : ∀ y, blk y = k → X y = X' y) :
    get (512 * k) X = get (512 * k) X' := by
  funext z
  have hz : (z (0 : Fin 2)).val < 512 := (z (0 : Fin 2)).isLt
  refine h _ ?_
  show (512 * k + (z (0 : Fin 2)).val) % 32768 / 512 = k
  omega

section View

variable {sig : RefSig} {κ : Kind} {sp : Space} {e : EltTy} {Val : EltTy → Type} (v : View sig κ sp Arr e) (f : v.ty.Contents Val)

/-- A load of 512 whole rows reads them off what the array reads. -/
theorem readAt_rows {off : Fin 2 → ℕ} {o : ℕ} (inb : ∀ a, off a + Blk.size a ≤ Arr.size a) (hoff : off = ![o, 0]) :
    v.readAt Val (Rect.unit (s := Arr) off Blk.size inb).toLoadRect f = get o (v.read Val f) := by
  subst hoff
  funext z
  have hz : (z (0 : Fin 2)).val < 512 := (z (0 : Fin 2)).isLt
  have h0 : o + 512 ≤ 32768 := inb (0 : Fin 2)
  refine congrArg (v.read Val f) (funext fun a => Fin.ext ?_)
  match a with
  | ⟨0, _⟩ =>
    show o + 1 * (z (0 : Fin 2)).val = (o + (z (0 : Fin 2)).val) % 32768
    omega
  | ⟨1, _⟩ =>
    show 0 + 1 * (z (1 : Fin 2)).val = (z (1 : Fin 2)).val
    omega

/-- After a store of 512 whole rows the array reads the stored rows there, and elsewhere what it read before. -/
theorem read_rows {off : Fin 2 → ℕ} {o : ℕ} (inb : ∀ a, off a + Blk.size a ≤ Arr.size a) (w : Blk.Idx → Val e)
    (L : List (View.Piece Val Arr e)) (hoff : off = ![o, 0]) :
    v.read Val (v.writes Val f ((⟨Rect.unit (s := Arr) off Blk.size inb, w⟩ : View.Piece Val Arr e) :: L))
      = put o w (v.read Val (v.writes Val f L)) := by
  funext y
  have h0 : o + 512 ≤ 32768 := by subst hoff; exact inb (0 : Fin 2)
  by_cases h : o ≤ row y ∧ row y < o + 512
  · unfold put
    rw [if_pos h]
    refine View.read_writes_cons_rows_of_mem v f inb w L y (in2 (row y - o) (col y)) hoff ?_ rfl
    show row y = o + (row y - o) % 512
    omega
  · unfold put
    rw [if_neg h]
    exact View.read_writes_cons_rows_of_not_mem v f inb w L y hoff (W := 512) rfl (by simp only [row] at h; omega)

end View

/-! ## Loops whose trips own rows -/

/-- Trips `0 … n - 1`, each of which changes only what it owns, and changes that depending only on what it owns: after them each
    entry owned by a trip holds what that trip makes of the array found before all of them, and the others are unchanged. -/
theorem trips_read {I : Type} (n : ℕ) (T : ℕ → (I → α) → I → α) (owner : I → ℕ)
    (hown : ∀ k, k < n → ∀ X X' : I → α, ∀ y, owner y = k → (∀ z, owner z = k → X z = X' z) → T k X y = T k X' y)
    (hne : ∀ k, k < n → ∀ (X : I → α) y, owner y ≠ k → T k X y = X y)
    (X : ℕ → I → α) (hX : ∀ k, k < n → X (k + 1) = T k (X k)) :
    ∀ y, X n y = if owner y < n then T (owner y) (X 0) y else X 0 y := by
  have key : ∀ k, k ≤ n → ∀ y, X k y = if owner y < k then T (owner y) (X 0) y else X 0 y := by
    intro k
    induction k with
    | zero => intro _ y; rw [if_neg (Nat.not_lt_zero _)]
    | succ k ih =>
      intro hk y
      rw [hX k hk]
      by_cases hy : owner y = k
      · rw [if_pos (by omega), hy]
        refine hown k hk _ _ y hy fun z hz => ?_
        rw [ih (by omega) z, if_neg (by omega)]
      · rw [hne k hk _ y hy, ih (by omega) y]
        by_cases h : owner y < k
        · rw [if_pos h, if_pos (by omega)]
        · rw [if_neg h, if_neg (by omega)]
  exact key n le_rfl

/-- Every block replaced by what `pay` makes of it. -/
def sweep (pay : (Blk.Idx → α) → Blk.Idx → α) (X : Arr.Idx → α) : Arr.Idx → α := fun y =>
  pay (get (512 * blk y) X) (in2 (row y) (col y))

/-- 64 trips, the `k`-th replacing the `k`-th block by what `pay` makes of it. -/
theorem sweep_read (pay : (Blk.Idx → α) → Blk.Idx → α) (X : ℕ → Arr.Idx → α)
    (hX : ∀ k, k < 64 → X (k + 1) = put (512 * k) (pay (get (512 * k) (X k))) (X k)) : X 64 = sweep pay (X 0) := by
  funext y
  have h := trips_read 64 (fun k Y => put (512 * k) (pay (get (512 * k) Y)) Y) blk
    (fun k hk Y Y' y hy hYY => by
      show put _ _ _ _ = put _ _ _ _
      rw [put_blk k _ _ y hy, put_blk k _ _ y hy, get_congr k hk Y Y' hYY])
    (fun k _ Y y hy => put_ne k _ _ y hy) X hX y
  rw [h, if_pos (blk_lt y)]
  exact put_blk (blk y) _ _ y rfl

/-- Blocks `a k` and `b k` replaced, for each `k < n`, by what `payA` and `payB` make of the two. `k` is given by `own`. -/
def pairs (n : ℕ) (a b own : ℕ → ℕ) (payA payB : (Blk.Idx → α) → (Blk.Idx → α) → Blk.Idx → α) (X : Arr.Idx → α) : Arr.Idx → α := fun y =>
  if own (blk y) < n then
    (if blk y = b (own (blk y)) then payB else payA) (get (512 * a (own (blk y))) X) (get (512 * b (own (blk y))) X) (in2 (row y) (col y))
  else X y

/-- `n` trips, the `k`-th replacing the blocks `a k` and `b k`. `own` gives back the trip from either block, and for any other
    block something that is no trip. -/
theorem pairs_read (n : ℕ) (a b own : ℕ → ℕ) (payA payB : (Blk.Idx → α) → (Blk.Idx → α) → Blk.Idx → α)
    (hown : ∀ k, k < n → a k < 64 ∧ b k < 64 ∧ a k ≠ b k ∧ own (a k) = k ∧ own (b k) = k)
    (hblk : ∀ r, r < 64 → own r < n → r = a (own r) ∨ r = b (own r)) (X : ℕ → Arr.Idx → α)
    (hX : ∀ k, k < n → X (k + 1) = put (512 * b k) (payB (get (512 * a k) (X k)) (get (512 * b k) (X k)))
      (put (512 * a k) (payA (get (512 * a k) (X k)) (get (512 * b k) (X k))) (X k))) :
    X n = pairs n a b own payA payB (X 0) := by
  funext y
  have h := trips_read n (fun k Y => put (512 * b k) (payB (get (512 * a k) Y) (get (512 * b k) Y))
      (put (512 * a k) (payA (get (512 * a k) Y) (get (512 * b k) Y)) Y)) (fun y => own (blk y))
    (fun k hk Y Y' y hy hYY => by
      obtain ⟨ha, hb, hab, hoa, hob⟩ := hown k hk
      have ea : get (512 * a k) Y = get (512 * a k) Y' := get_congr (a k) ha Y Y' fun z hz => hYY z (by rw [hz, hoa])
      have eb : get (512 * b k) Y = get (512 * b k) Y' := get_congr (b k) hb Y Y' fun z hz => hYY z (by rw [hz, hob])
      have hyk : blk y = a k ∨ blk y = b k := by
        have := hblk (blk y) (blk_lt y) (by rw [hy]; exact hk)
        rwa [hy] at this
      show put _ _ _ _ = put _ _ _ _
      rw [ea, eb]
      rcases hyk with h | h
      · rw [put_ne (b k) _ _ y (by rw [h]; exact hab), put_ne (b k) _ _ y (by rw [h]; exact hab), put_blk (a k) _ _ y h, put_blk (a k) _ _ y h]
      · rw [put_blk (b k) _ _ y h, put_blk (b k) _ _ y h])
    (fun k hk Y y hy => by
      obtain ⟨ha, hb, hab, hoa, hob⟩ := hown k hk
      show put _ _ _ _ = _
      rw [put_ne (b k) _ _ y (fun h => hy (by show own (blk y) = k; rw [h, hob])),
        put_ne (a k) _ _ y (fun h => hy (by show own (blk y) = k; rw [h, hoa]))])
    X hX y
  rw [h]
  unfold pairs
  by_cases hn : own (blk y) < n
  · rw [if_pos hn, if_pos hn]
    obtain ⟨ha, hb, hab, hoa, hob⟩ := hown _ hn
    show put _ _ _ _ = _
    by_cases hy : blk y = b (own (blk y))
    · rw [put_blk _ _ _ y hy, if_pos hy]
    · have hy' := (hblk (blk y) (blk_lt y) hn).resolve_right hy
      rw [put_ne _ _ _ y hy, put_blk _ _ _ y hy', if_neg hy]
  · rw [if_neg hn, if_neg hn]

end Cert.Rows
-- ==== Proof.Ideal.Nested.lean ====
/-
  The circuit's kernel body, gone through once: what it leaves in its state array as a function of what it finds there.

  The loops over one block each have a generated invariant; the four loops that hold a loop (or a layer) get theirs here,
  all the same way: `trip…` is one trip run once at a symbolic trip, its result on the state array found by the run, and
  `iterate` is the trips one after another.
-/
module

public import proofs.«01_k».proof.Proof.Common.Rows
public import proofs.«01_k».proof.Proof.Gen.KernelIdeal.Loops
public import Idealize.ShloMosaic.Lib.Tactic

@[expose] public section

set_option maxRecDepth 16384
set_option warn.classDefReducibility false

noncomputable section

namespace Cert.KernelIdeal.Circuit

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a memref's buffer may hold, and the buffer held at it. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  iprop(M.view.loc (c : Thread nD τ) ↦[M.view.set]{fullShare} f)

variable (c : Dev nD) (arg0 : Memref sig .tc .vmem S90x1x128 .f32) (harg0 : arg0.IsWhole) (arg1 : Memref sig .tc .vmem S90x1x128 .f32)
  (harg1 : arg1.IsWhole) (arg2 : Memref sig .tc .vmem S32768x128 .f32) (harg2 : arg2.IsWhole)

/-- The three buffers of the kernel: the cosines, the sines and the state. -/
abbrev held (f0 : Bf (F := F) arg0) (f1 : Bf (F := F) arg1) (f : Bf (F := F) arg2) : sProp 𝕄 :=
  iprop(pt c arg0 f0 ∗ pt c arg1 f1 ∗ pt c arg2 f)

/-- Layer's first rotations, qubits 9 to 14: one trip, from any state array. -/
@[irreducible] def trip12 (k0_t2 : Fin k0_t2_loop.trips) (v11 : BitVec 32) (f0 : Bf (F := F) arg0) (f1 : Bf (F := F) arg1) (k : Fin k0_t12_loop.trips) :
    { out : Bf (F := F) arg2 → Bf (F := F) arg2 // ∀ (E : Set ℕ) (f : Bf (F := F) arg2),
      held c arg0 arg1 arg2 f0 f1 f ⊢ wp frame (wpE (defs₀ (F := F)) Variants.none (c : Thread nD τ) none) E
        (k0_t12_body (F := F) arg0 harg0 arg1 harg1 arg2 harg2 k0_t2 v11 k PUnit.unit) (fun _ => held c arg0 arg1 arg2 f0 f1 (out f)) } := by
  refine ⟨?_, fun E f => ?run⟩
  case run =>
    sl_unfold [k0_t12_body]
    iintro ⟨H0, H1, H2⟩
    sl_exec
    sl_step
    sl_close

/-- Layer's first rotations, qubits 9 to 14: the trips so far applied to the state array found at the loop's entry. -/
@[sl_loop] def loop12 (E : Set ℕ) (k0_t2 : Fin k0_t2_loop.trips) (v11 : BitVec 32) (f0 : Bf (F := F) arg0) (f1 : Bf (F := F) arg1) (G : Bf (F := F) arg2) :
    LoopInvTy_k0_t12 (F := F) Unit ℕ (UR sig nD τ) ℕ Variants.none c none E arg0 harg0 arg1 harg1 arg2 harg2 k0_t2 v11 where
  inv k _ := iprop(pt c arg0 f0 ∗ pt c arg1 f1 ∗ ∃ f, pt c arg2 f ∗ ⌜f = iterate (fun k => (trip12 c arg0 harg0 arg1 harg1 arg2 harg2 k0_t2 v11 f0 f1 k).1) G k⌝)
  step k acc := by
    iintro ⟨H0, H1, %f, H2, %hf⟩
    iapply (wp_wand_r Idealize.ShloMosaic.frame (wpE (defs₀ (F := F)) Variants.none (c : Thread nD τ) none) E)
    isplitl [H0 H1 H2]
    · iapply ((trip12 c arg0 harg0 arg1 harg1 arg2 harg2 k0_t2 v11 f0 f1 k).2 E f)
      isplitl [H0]; · iexact H0
      isplitl [H1]; · iexact H1
      iexact H2
    · iintro %_ ⟨H0, H1, H2⟩
      isplitl [H0]; · iexact H0
      isplitl [H1]; · iexact H1
      iexists _; isplitl [H2]; · iexact H2
      ipureintro; rw [hf, iterate_succ]

/-- The CNOTs from qubits 9 to 13: one trip, from any state array. -/
@[irreducible] def trip23 (v167 : IVec S512x128 1) (c0_i32_128 : BitVec 32) (k : Fin k0_t23_loop.trips) :
    { out : Bf (F := F) arg2 → Bf (F := F) arg2 // ∀ (E : Set ℕ) (f : Bf (F := F) arg2),
      pt c arg2 f ⊢ wp frame (wpE (defs₀ (F := F)) Variants.none (c : Thread nD τ) none) E
        (k0_t23_body (F := F) arg0 harg0 arg1 harg1 arg2 harg2 v167 c0_i32_128 k PUnit.unit) (fun _ => pt c arg2 (out f)) } := by
  refine ⟨?_, fun E f => ?run⟩
  case run =>
    sl_unfold [k0_t23_body]
    iintro H2
    sl_exec
    sl_step
    sl_close

/-- The CNOTs from qubits 9 to 13: the trips so far applied to the state array found at the loop's entry. -/
@[sl_loop] def loop23 (E : Set ℕ) (v167 : IVec S512x128 1) (c0_i32_128 : BitVec 32) (G : Bf (F := F) arg2) :
    LoopInvTy_k0_t23 (F := F) Unit ℕ (UR sig nD τ) ℕ Variants.none c none E arg0 harg0 arg1 harg1 arg2 harg2 v167 c0_i32_128 where
  inv k _ := iprop(∃ f, pt c arg2 f ∗ ⌜f = iterate (fun k => (trip23 c arg0 harg0 arg1 harg1 arg2 harg2 v167 c0_i32_128 k).1) G k⌝)
  step k acc := by
    iintro ⟨%f, H2, %hf⟩
    iapply (wp_wand_r Idealize.ShloMosaic.frame (wpE (defs₀ (F := F)) Variants.none (c : Thread nD τ) none) E)
    isplitl [H2]
    · iapply ((trip23 c arg0 harg0 arg1 harg1 arg2 harg2 v167 c0_i32_128 k).2 E f)
      iexact H2
    · iintro %_ H2
      iexists _; isplitl [H2]; · iexact H2
      ipureintro; rw [hf, iterate_succ]

/-- Layer's second rotations, qubits 9 to 14: one trip, from any state array. -/
@[irreducible] def trip35 (k0_t2 : Fin k0_t2_loop.trips) (f0 : Bf (F := F) arg0) (f1 : Bf (F := F) arg1) (k : Fin k0_t35_loop.trips) :
    { out : Bf (F := F) arg2 → Bf (F := F) arg2 // ∀ (E : Set ℕ) (f : Bf (F := F) arg2),
      held c arg0 arg1 arg2 f0 f1 f ⊢ wp frame (wpE (defs₀ (F := F)) Variants.none (c : Thread nD τ) none) E
        (k0_t35_body (F := F) arg0 harg0 arg1 harg1 arg2 harg2 k0_t2 k PUnit.unit) (fun _ => held c arg0 arg1 arg2 f0 f1 (out f)) } := by
  refine ⟨?_, fun E f => ?run⟩
  case run =>
    sl_unfold [k0_t35_body]
    iintro ⟨H0, H1, H2⟩
    sl_exec
    sl_step
    sl_close

/-- Layer's second rotations, qubits 9 to 14: the trips so far applied to the state array found at the loop's entry. -/
@[sl_loop] def loop35 (E : Set ℕ) (k0_t2 : Fin k0_t2_loop.trips) (f0 : Bf (F := F) arg0) (f1 : Bf (F := F) arg1) (G : Bf (F := F) arg2) :
    LoopInvTy_k0_t35 (F := F) Unit ℕ (UR sig nD τ) ℕ Variants.none c none E arg0 harg0 arg1 harg1 arg2 harg2 k0_t2 where
  inv k _ := iprop(pt c arg0 f0 ∗ pt c arg1 f1 ∗ ∃ f, pt c arg2 f ∗ ⌜f = iterate (fun k => (trip35 c arg0 harg0 arg1 harg1 arg2 harg2 k0_t2 f0 f1 k).1) G k⌝)
  step k acc := by
    iintro ⟨H0, H1, %f, H2, %hf⟩
    iapply (wp_wand_r Idealize.ShloMosaic.frame (wpE (defs₀ (F := F)) Variants.none (c : Thread nD τ) none) E)
    isplitl [H0 H1 H2]
    · iapply ((trip35 c arg0 harg0 arg1 harg1 arg2 harg2 k0_t2 f0 f1 k).2 E f)
      isplitl [H0]; · iexact H0
      isplitl [H1]; · iexact H1
      iexact H2
    · iintro %_ ⟨H0, H1, H2⟩
      isplitl [H0]; · iexact H0
      isplitl [H1]; · iexact H1
      iexists _; isplitl [H2]; · iexact H2
      ipureintro; rw [hf, iterate_succ]

end Cert.KernelIdeal.Circuit

end
-- ==== Proof.Ideal.Layer.lean ====
/-
  One layer of the circuit's kernel body, and the whole body: what it leaves in the state array as a function of the cosines,
  the sines and what the array held.
-/
module

public import proofs.«01_k».proof.Proof.Ideal.Nested

@[expose] public section

set_option maxRecDepth 16384
set_option warn.classDefReducibility false
set_option maxHeartbeats 2000000

noncomputable section

namespace Cert.KernelIdeal.Circuit

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (arg0 : Memref sig .tc .vmem S90x1x128 .f32) (harg0 : arg0.IsWhole) (arg1 : Memref sig .tc .vmem S90x1x128 .f32)
  (harg1 : arg1.IsWhole) (arg2 : Memref sig .tc .vmem S32768x128 .f32) (harg2 : arg2.IsWhole)

/-- The layers of the circuit: one trip, from any state array. -/
@[irreducible] def trip2 (f0 : Bf (F := F) arg0) (f1 : Bf (F := F) arg1) (k : Fin k0_t2_loop.trips) :
    { out : Bf (F := F) arg2 → Bf (F := F) arg2 // ∀ (E : Set ℕ) (f : Bf (F := F) arg2),
      held c arg0 arg1 arg2 f0 f1 f ⊢ wp frame (wpE (defs₀ (F := F)) Variants.none (c : Thread nD τ) none) E
        (k0_t2_body (F := F) arg0 harg0 arg1 harg1 arg2 harg2 k PUnit.unit) (fun _ => held c arg0 arg1 arg2 f0 f1 (out f)) } := by
  refine ⟨?_, fun E f => ?run⟩
  case run =>
    sl_unfold [k0_t2_body]
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    iintro ⟨H0, H1, H2⟩
    sl_exec
    sl_step
    sl_close

/-- The layers of the circuit: the trips so far applied to the state array found at the loop's entry. -/
@[sl_loop] def loop2 (E : Set ℕ) (f0 : Bf (F := F) arg0) (f1 : Bf (F := F) arg1) (G : Bf (F := F) arg2) :
    LoopInvTy_k0_t2 (F := F) Unit ℕ (UR sig nD τ) ℕ Variants.none c none E arg0 harg0 arg1 harg1 arg2 harg2  where
  inv k _ := iprop(pt c arg0 f0 ∗ pt c arg1 f1 ∗ ∃ f, pt c arg2 f ∗ ⌜f = iterate (fun k => (trip2 c arg0 harg0 arg1 harg1 arg2 harg2 f0 f1 k).1) G k⌝)
  step k acc := by
    iintro ⟨H0, H1, %f, H2, %hf⟩
    iapply (wp_wand_r Idealize.ShloMosaic.frame (wpE (defs₀ (F := F)) Variants.none (c : Thread nD τ) none) E)
    isplitl [H0 H1 H2]
    · iapply ((trip2 c arg0 harg0 arg1 harg1 arg2 harg2 f0 f1 k).2 E f)
      isplitl [H0]; · iexact H0
      isplitl [H1]; · iexact H1
      iexact H2
    · iintro %_ ⟨H0, H1, H2⟩
      isplitl [H0]; · iexact H0
      isplitl [H1]; · iexact H1
      iexists _; isplitl [H2]; · iexact H2
      ipureintro; rw [hf, iterate_succ]

/-- The whole body: what it leaves in the state array, whatever that held. -/
@[irreducible] def body (f0 : Bf (F := F) arg0) (f1 : Bf (F := F) arg1) :
    { out : Bf (F := F) arg2 → Bf (F := F) arg2 // ∀ (E : Set ℕ) (f : Bf (F := F) arg2) (Q : PUnit → sProp 𝕄),
      iprop(held c arg0 arg1 arg2 f0 f1 f ∗ (held c arg0 arg1 arg2 f0 f1 (out f) -∗ Q ⟨⟩))
      ⊢ wp frame (wpE (defs₀ (F := F)) Variants.none (c : Thread nD τ) none) E
        (cc0__quantum_body (F := F) arg0 harg0 arg1 harg1 arg2 harg2) Q } := by
  refine ⟨?_, fun E f Q => ?run⟩
  case run =>
    iintro ⟨⟨H0, H1, H2⟩, Hk⟩
    sl_exec
    sl_step
    iapply Hk
    isplitl [H0]; · iexact H0
    isplitl [H1]; · iexact H1
    iexact H2

end Cert.KernelIdeal.Circuit

end
-- ==== Proof.Ideal.Start.lean ====
/-
  The circuit's body clears its whole state array first: what it leaves does not depend on what the array held.
-/
module

public import proofs.«01_k».proof.Proof.Ideal.Layer
public import Idealize.ShloMosaic.Lib.Pipeline.Frame

@[expose] public section

set_option maxRecDepth 16384

noncomputable section

namespace Cert.KernelIdeal.Circuit

open Cert.KernelIdeal Cert.KernelIdeal.Gen Cert.Rows
open Idealize.ShloMosaic Idealize.ShloMosaic.TcCoe

variable {F : FTy → Type} [FloatOps F]

/-- A loop over the blocks makes 64 trips. -/
theorem trips64 : Scf.trips (0#32) (Scalar.addi 0#32 64#32) 1#32 = 64 := by decide

variable (c : Dev nD) (arg0 : Memref sig .tc .vmem S90x1x128 .f32) (harg0 : arg0.IsWhole) (arg1 : Memref sig .tc .vmem S90x1x128 .f32)
  (harg1 : arg1.IsWhole) (arg2 : Memref sig .tc .vmem S32768x128 .f32) (harg2 : arg2.IsWhole)

/-- The first loop leaves zeros everywhere. -/
theorem clear_read (f : Bf (F := F) arg2) :
    arg2.view.read (Elt F) (arg2.view.writes (Elt F) f (pb_k0_t1 Variants.none c none arg0 harg0 arg1 harg1 arg2 harg2
      (Scf.trips (0#32) (Scalar.addi 0#32 64#32) 1#32))) = sweep (fun _ => k0_pay1 (F := F)) (arg2.view.read (Elt F) f) := by
  rw [trips64]
  refine (sweep_read (fun _ => k0_pay1 (F := F)) (fun k => arg2.view.read (Elt F) (arg2.view.writes (Elt F) f
    (pb_k0_t1 Variants.none c none arg0 harg0 arg1 harg1 arg2 harg2 k))) fun k hk => ?_).trans rfl
  have e := pb_k0_t1_succ (F := F) Variants.none c none arg0 harg0 arg1 harg1 arg2 harg2 ⟨k, hk⟩
  dsimp only at e ⊢
  rw [e]
  unfold tripL_k0_t1 trip_k0_t1
  exact read_rows arg2.view f _ _ _ (k0_off1_eq ⟨k, hk⟩)

include harg2 in
/-- The cleared array is the same whatever was there. -/
theorem clear_same (f f' : Bf (F := F) arg2) :
    arg2.view.writes (Elt F) f (pb_k0_t1 Variants.none c none arg0 harg0 arg1 harg1 arg2 harg2 (Scf.trips (0#32) (Scalar.addi 0#32 64#32) 1#32))
      = arg2.view.writes (Elt F) f' (pb_k0_t1 Variants.none c none arg0 harg0 arg1 harg1 arg2 harg2 (Scf.trips (0#32) (Scalar.addi 0#32 64#32) 1#32)) :=
  harg2.read_bijective.1 (by rw [clear_read, clear_read]; rfl)

/-- The whole body leaves the same array whatever was there. -/
theorem body_same (f0 : Bf (F := F) arg0) (f1 : Bf (F := F) arg1) (f f' : Bf (F := F) arg2) :
    (body c arg0 harg0 arg1 harg1 arg2 harg2 f0 f1).1 f = (body c arg0 harg0 arg1 harg1 arg2 harg2 f0 f1).1 f' := by
  unfold body
  dsimp only
  rw [clear_same c arg0 harg0 arg1 harg1 arg2 harg2 f f']

end Cert.KernelIdeal.Circuit

end
-- ==== Proof.Ideal.CircuitCall.lean ====
/-
  The circuit's pallas_call: what it is entered with and what it leaves, and its body at its one grid point.
-/
module

public import proofs.«01_k».proof.Proof.Ideal.Start
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Run

open Cert.KernelIdeal Cert.KernelIdeal.Gen Cert.KernelIdeal.Circuit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What each TensorCore's buffers hold. -/
abbrev Vals : Type := (c : Dev nD) → (b : Ref sig .tc) → Buf (Elt F) ((c : Thread nD τ).loc b)

variable (V : Vals (F := F))

/-- The cosines and the sines as they are staged. -/
def cosBlock (c : Dev nD) : (cfg0.win 0).block.Idx → Elt F (cfg0.win 0).elt :=
  ((cfg0.win 0).blk t0_0).view.read (Elt F) (V c main_call0_v53)
def sinBlock (c : Dev nD) : (cfg0.win 1).block.Idx → Elt F (cfg0.win 1).elt :=
  ((cfg0.win 1).blk t0_0).view.read (Elt F) (V c main_call0_v54)

/-- What the body leaves in the staging buffer of the result. -/
def circuit (c : Dev nD) : (cfg0.win 2).block.Idx → Elt F (cfg0.win 2).elt :=
  (body c (stage0_0 0) (hstage0_0 0) (stage0_1 0) (hstage0_1 0) (stage0_2 0) (hstage0_2 0) (cosBlock V c) (sinBlock V c)).1
    (fun _ => Classical.arbitrary _)

/-- The call's proof data: its arrays as found; the cosines and sines kept, the result as the body computes it. -/
def dat0 (c : Dev nD) : Dat τ (Elt F) Unit ℕ (UR sig nD τ) ℕ cfg0 c where
  A w := V c (Pipeline.arrRef spec0 w)
  after w _ := match w with
    | ⟨0, _⟩ => cosBlock V c
    | ⟨1, _⟩ => sinBlock V c
    | ⟨2, _⟩ => circuit V c
  Φ _ := Pipeline.scopedRest (Ix := Unit) (Name := ℕ) (U := UR sig nD τ) (Lvl := ℕ) (Val := Elt F) spec0 c
  q _ := fullShare
  owed _ := 0

theorem before_cos (c : Dev nD) (d : (cfg0.win 0).block.Idx → Elt F (cfg0.win 0).elt) : (dat0 V c).before 0 t0_0 d = cosBlock V c := by
  unfold Dat.before; rw [if_pos (by decide)]; rfl
theorem before_sin (c : Dev nD) (d : (cfg0.win 1).block.Idx → Elt F (cfg0.win 1).elt) : (dat0 V c).before 1 t0_0 d = sinBlock V c := by
  unfold Dat.before; rw [if_pos (by decide)]; rfl

/-- The body takes the staged cosines and sines to the stored result. -/
theorem circuit_obligation (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = (dat0 V c).Φ t0_0.succ from rfl,
    show (dat0 V c).owesAt () t0_0.succ = (dat0 V c).owesAt () t0_0.castSucc from rfl]
  iintro ⟨HΦ, Howes, ⟨%d0, %f0, %hf0, H0⟩, ⟨%d1, %f1, %hf1, H1⟩, ⟨%d2, %f2, -, H2⟩⟩
  rw [before_cos] at hf0
  rw [before_sin] at hf1
  subst hf0; subst hf1
  have hb := (body c (stage0_0 0) (hstage0_0 0) (stage0_1 0) (hstage0_1 0) (stage0_2 0) (hstage0_2 0) (cosBlock V c) (sinBlock V c)).2 Set.univ f2
  rw [body_same c (stage0_0 0) (hstage0_0 0) (stage0_1 0) (hstage0_1 0) (stage0_2 0) (hstage0_2 0) (cosBlock V c) (sinBlock V c) f2 (fun _ => Classical.arbitrary _)] at hb
  unfold held pt at hb
  simp only [Memref.view_whole, View.set_whole] at hb
  iapply (hb _)
  isplitl [H0 H1 H2]
  · isplitl [H0]; · iexact H0
    isplitl [H1]; · iexact H1
    iexact H2
  iintro ⟨H0, H1, H2⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  iexists _; isplitr; swap; (· iexact H2); ipureintro; dsimp only [dat0]; rfl

end Cert.KernelIdeal.Run

end
-- ==== Proof.Ideal.Dense.lean ====
/-
  The perceptron's kernel body, gone through once at each kind of grid point: the first (which clears the accumulator),
  one in between, and the last (which also stores the result).
-/
module

public import proofs.«01_k».proof.Proof.Ideal.Nested
public import proofs.«01_k».proof.Proof.Gen.KernelIdeal.Skeleton
public import Idealize.ShloMosaic.Lib.VecWindow
public import Idealize.ShloMosaic.Lib.Tactic

@[expose] public section

set_option maxRecDepth 16384

noncomputable section

namespace Cert.KernelIdeal.Dense

open Cert.KernelIdeal Cert.KernelIdeal.Gen Cert.KernelIdeal.Circuit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a grid point is the first, as the kernel computes it. -/
abbrev firstWord (i : grid1.Coords) : BitVec 1 :=
  Scalar.cmpi .ne (Scalar.extui (Scalar.cmpi .eq (BitVec.ofNat 32 (i 0).val) 0#32) : BitVec 32) 0#32

variable (c : Dev nD) (i : grid1.Coords) (arg1 : Memref sig .tc .vmem S4096x128 .f32) (harg1 : arg1.IsWhole) (arg2 : Memref sig .tc .vmem S512x4096 .f32)
  (harg2 : arg2.IsWhole) (arg3 : Memref sig .tc .vmem S256x512 .f32) (harg3 : arg3.IsWhole) (arg4 : Memref sig .tc .vmem S128x256 .f32) (harg4 : arg4.IsWhole)
  (arg5 : Memref sig .tc .vmem S512x1 .f32) (harg5 : arg5.IsWhole) (arg6 : Memref sig .tc .vmem S256x1 .f32) (harg6 : arg6.IsWhole)
  (arg7 : Memref sig .tc .vmem S128x1 .f32) (harg7 : arg7.IsWhole) (arg8 : Memref sig .tc .vmem S128x128 .f32) (harg8 : arg8.IsWhole)
  (arg9 : Memref sig .tc .vmem S512x128 .f32) (harg9 : arg9.IsWhole)

/-- The kernel's windows' buffers, in order: probabilities, the three weights, the three biases. -/
abbrev inputs (f1 : Bf (F := F) arg1) (f2 : Bf (F := F) arg2) (f3 : Bf (F := F) arg3) (f4 : Bf (F := F) arg4) (f5 : Bf (F := F) arg5)
    (f6 : Bf (F := F) arg6) (f7 : Bf (F := F) arg7) : sProp 𝕄 :=
  iprop(pt c arg1 f1 ∗ pt c arg2 f2 ∗ pt c arg3 f3 ∗ pt c arg4 f4 ∗ pt c arg5 f5 ∗ pt c arg6 f6 ∗ pt c arg7 f7)

/-- A first point that is not the last. -/
def first (hf : firstWord i = 1#1) (hl : ¬ k1_cond2 i = 1#1) (f1 : Bf (F := F) arg1) (f2 : Bf (F := F) arg2) (f3 : Bf (F := F) arg3)
    (f4 : Bf (F := F) arg4) (f5 : Bf (F := F) arg5) (f6 : Bf (F := F) arg6) (f7 : Bf (F := F) arg7) (f9 : Bf (F := F) arg9) :
    { out : Bf (F := F) arg9 // ∀ (E : Set ℕ) (f8 : Bf (F := F) arg8) (Q : PUnit → sProp 𝕄),
      iprop(inputs c arg1 arg2 arg3 arg4 arg5 arg6 arg7 f1 f2 f3 f4 f5 f6 f7 ∗ pt c arg8 f8 ∗ pt c arg9 f9
        ∗ (iprop(inputs c arg1 arg2 arg3 arg4 arg5 arg6 arg7 f1 f2 f3 f4 f5 f6 f7 ∗ pt c arg8 f8 ∗ pt c arg9 out) -∗ Q ⟨⟩))
      ⊢ wp frame (wpE (defs₀ (F := F)) Variants.none (c : Thread nD τ) none) E
        (cc1__mlp_body (F := F) i arg1 harg1 arg2 harg2 arg3 harg3 arg4 harg4 arg5 harg5 arg6 harg6 arg7 harg7 arg8 harg8 arg9 harg9) Q } := by
  refine ⟨?_, fun E f8 Q => ?_⟩; swap
  · rw [cc1__mlp_body_eq_skeleton]; unfold cc1__mlp_body_skel
    dsimp only
    rw [dif_pos hf, dif_neg hl]
    iintro ⟨⟨H1, H2, H3, H4, H5, H6, H7⟩, H8, H9, Hk⟩
    sl_exec
    sl_step
    iapply Hk
    isplitl [H1 H2 H3 H4 H5 H6 H7]
    · sl_close
    isplitl [H8]; · iexact H8
    iexact H9

/-- A point that is neither the first nor the last. -/
def middle (hf : ¬ firstWord i = 1#1) (hl : ¬ k1_cond2 i = 1#1) (f1 : Bf (F := F) arg1) (f2 : Bf (F := F) arg2) (f3 : Bf (F := F) arg3)
    (f4 : Bf (F := F) arg4) (f5 : Bf (F := F) arg5) (f6 : Bf (F := F) arg6) (f7 : Bf (F := F) arg7) (f9 : Bf (F := F) arg9) :
    { out : Bf (F := F) arg9 // ∀ (E : Set ℕ) (f8 : Bf (F := F) arg8) (Q : PUnit → sProp 𝕄),
      iprop(inputs c arg1 arg2 arg3 arg4 arg5 arg6 arg7 f1 f2 f3 f4 f5 f6 f7 ∗ pt c arg8 f8 ∗ pt c arg9 f9
        ∗ (iprop(inputs c arg1 arg2 arg3 arg4 arg5 arg6 arg7 f1 f2 f3 f4 f5 f6 f7 ∗ pt c arg8 f8 ∗ pt c arg9 out) -∗ Q ⟨⟩))
      ⊢ wp frame (wpE (defs₀ (F := F)) Variants.none (c : Thread nD τ) none) E
        (cc1__mlp_body (F := F) i arg1 harg1 arg2 harg2 arg3 harg3 arg4 harg4 arg5 harg5 arg6 harg6 arg7 harg7 arg8 harg8 arg9 harg9) Q } := by
  refine ⟨?_, fun E f8 Q => ?_⟩; swap
  · rw [cc1__mlp_body_eq_skeleton]; unfold cc1__mlp_body_skel
    dsimp only
    rw [dif_neg hf, dif_neg hl]
    iintro ⟨⟨H1, H2, H3, H4, H5, H6, H7⟩, H8, H9, Hk⟩
    sl_exec
    sl_step
    iapply Hk
    isplitl [H1 H2 H3 H4 H5 H6 H7]
    · sl_close
    isplitl [H8]; · iexact H8
    iexact H9

/-- A last point that is not the first: the accumulator and the result it leaves. -/
def last (hf : ¬ firstWord i = 1#1) (hl : k1_cond2 i = 1#1) (f1 : Bf (F := F) arg1) (f2 : Bf (F := F) arg2) (f3 : Bf (F := F) arg3)
    (f4 : Bf (F := F) arg4) (f5 : Bf (F := F) arg5) (f6 : Bf (F := F) arg6) (f7 : Bf (F := F) arg7) (f8 : Bf (F := F) arg8) (f9 : Bf (F := F) arg9) :
    { out : Bf (F := F) arg9 × Bf (F := F) arg8 // ∀ (E : Set ℕ) (Q : PUnit → sProp 𝕄),
      iprop(inputs c arg1 arg2 arg3 arg4 arg5 arg6 arg7 f1 f2 f3 f4 f5 f6 f7 ∗ pt c arg8 f8 ∗ pt c arg9 f9
        ∗ (iprop(inputs c arg1 arg2 arg3 arg4 arg5 arg6 arg7 f1 f2 f3 f4 f5 f6 f7 ∗ pt c arg8 out.2 ∗ pt c arg9 out.1) -∗ Q ⟨⟩))
      ⊢ wp frame (wpE (defs₀ (F := F)) Variants.none (c : Thread nD τ) none) E
        (cc1__mlp_body (F := F) i arg1 harg1 arg2 harg2 arg3 harg3 arg4 harg4 arg5 harg5 arg6 harg6 arg7 harg7 arg8 harg8 arg9 harg9) Q } := by
  refine ⟨(?_, ?_), fun E Q => ?_⟩; rotate_left 2
  · rw [cc1__mlp_body_eq_skeleton]; unfold cc1__mlp_body_skel
    dsimp only
    rw [dif_neg hf, dif_pos hl]
    iintro ⟨⟨H1, H2, H3, H4, H5, H6, H7⟩, H8, H9, Hk⟩
    sl_exec
    sl_step
    iapply Hk
    isplitl [H1 H2 H3 H4 H5 H6 H7]
    · sl_close
    isplitl [H8]; · iexact H8
    iexact H9

/-- What a memref's buffer reads. -/
abbrev rd {sp : Space} {S : Shape} {e : EltTy} (M : Memref sig .tc sp S e) (f : Bf (F := F) M) : S.Idx → Elt F e := M.view.read (Elt F) f

/-- The first point clears the accumulator and adds its product. -/
theorem first_read (hf : firstWord i = 1#1) (hl : ¬ k1_cond2 i = 1#1) (f1 : Bf (F := F) arg1) (f2 : Bf (F := F) arg2) (f3 : Bf (F := F) arg3) (f4 : Bf (F := F) arg4)
    (f5 : Bf (F := F) arg5) (f6 : Bf (F := F) arg6) (f7 : Bf (F := F) arg7) (f9 : Bf (F := F) arg9) :
    rd arg9 (first c i arg1 harg1 arg2 harg2 arg3 harg3 arg4 harg4 arg5 harg5 arg6 harg6 arg7 harg7 arg8 harg8 arg9 harg9 hf hl f1 f2 f3 f4 f5 f6 f7 f9).1 = k1_pay2 (k1_pay1 (F := F)) (rd arg2 f2) (rd arg1 f1) := by
  unfold first
  refine (View.read_writes_full arg9.view f9 inb_S512x128_S512x128_0_0 _ _).trans ?_
  exact congr (congr (congrArg k1_pay2 (View.readCov_full arg9.view inb_S512x128_S512x128_0_0 inb_S512x128_S512x128_0_0 _ _))
    (View.readAt_full arg2.view _ inb_S512x4096_S512x4096_0_0)) (View.readAt_full arg1.view _ inb_S4096x128_S4096x128_0_0)

/-- A point in between adds its product. -/
theorem middle_read (hf : ¬ firstWord i = 1#1) (hl : ¬ k1_cond2 i = 1#1) (f1 : Bf (F := F) arg1) (f2 : Bf (F := F) arg2) (f3 : Bf (F := F) arg3) (f4 : Bf (F := F) arg4)
    (f5 : Bf (F := F) arg5) (f6 : Bf (F := F) arg6) (f7 : Bf (F := F) arg7) (f9 : Bf (F := F) arg9) :
    rd arg9 (middle c i arg1 harg1 arg2 harg2 arg3 harg3 arg4 harg4 arg5 harg5 arg6 harg6 arg7 harg7 arg8 harg8 arg9 harg9 hf hl f1 f2 f3 f4 f5 f6 f7 f9).1 = k1_pay2 (rd arg9 f9) (rd arg2 f2) (rd arg1 f1) := by
  unfold middle
  refine (View.read_writes_full arg9.view f9 inb_S512x128_S512x128_0_0 _ _).trans ?_
  exact congr (congr (congrArg k1_pay2 (View.readAt_full arg9.view _ inb_S512x128_S512x128_0_0))
    (View.readAt_full arg2.view _ inb_S512x4096_S512x4096_0_0)) (View.readAt_full arg1.view _ inb_S4096x128_S4096x128_0_0)

/-- The last point adds its product and stores the perceptron's two further layers of the sum. -/
theorem last_read (hf : ¬ firstWord i = 1#1) (hl : k1_cond2 i = 1#1) (f1 : Bf (F := F) arg1) (f2 : Bf (F := F) arg2) (f3 : Bf (F := F) arg3) (f4 : Bf (F := F) arg4)
    (f5 : Bf (F := F) arg5) (f6 : Bf (F := F) arg6) (f7 : Bf (F := F) arg7) (f8 : Bf (F := F) arg8) (f9 : Bf (F := F) arg9) :
    rd arg9 (last c i arg1 harg1 arg2 harg2 arg3 harg3 arg4 harg4 arg5 harg5 arg6 harg6 arg7 harg7 arg8 harg8 arg9 harg9 hf hl f1 f2 f3 f4 f5 f6 f7 f8 f9).1.1 = k1_pay2 (rd arg9 f9) (rd arg2 f2) (rd arg1 f1)
    ∧ rd arg8 (last c i arg1 harg1 arg2 harg2 arg3 harg3 arg4 harg4 arg5 harg5 arg6 harg6 arg7 harg7 arg8 harg8 arg9 harg9 hf hl f1 f2 f3 f4 f5 f6 f7 f8 f9).1.2
      = k1_pay3 (k1_pay2 (rd arg9 f9) (rd arg2 f2) (rd arg1 f1)) (rd arg5 f5) (rd arg3 f3) (rd arg6 f6) (rd arg4 f4) (rd arg7 f7) := by
  unfold last last.sl.v15 last.sl.H9_1
  dsimp only
  rw [View.readCov_full, View.readAt_full, View.readAt_full, View.readAt_full, View.readAt_full, View.readAt_full, View.readAt_full,
    View.readAt_full, View.readAt_full]
  exact ⟨View.read_writes_full arg9.view f9 inb_S512x128_S512x128_0_0 _ _, View.read_writes_full arg8.view f8 inb_S128x128_S128x128_0_0 _ _⟩

end Cert.KernelIdeal.Dense

end
-- ==== Proof.Ideal.DenseCall.lean ====
/-
  The perceptron's pallas_call: what it is entered with and what it leaves, and its body at each of its eight grid points.
-/
module

public import proofs.«01_k».proof.Proof.Ideal.Dense
public import proofs.«01_k».proof.Proof.Ideal.CircuitCall

@[expose] public section

set_option maxRecDepth 16384
set_option maxHeartbeats 1000000

noncomputable section

namespace Cert.KernelIdeal.Run

open Cert.KernelIdeal Cert.KernelIdeal.Gen Cert.KernelIdeal.Circuit Cert.KernelIdeal.Dense
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : Vals (F := F))

/-- A window's block at a point, read off the window's array. -/
def part (c : Dev nD) (w : Fin 8) (t : Fin cfg1.N) : ((cfg1.win w).xblock (cfg1.grid.coords t)).Idx → Elt F (cfg1.win w).elt :=
  ((cfg1.win w).blk t).view.read (Elt F) (V c (Pipeline.arrRef spec1 w))

/-- The first layer's sum over the points so far. -/
def acc (c : Dev nD) : ℕ → S512x128.Idx → Elt F .f32
  | 0 => k1_pay1 (F := F)
  | n + 1 => if h : n < cfg1.N then k1_pay2 (acc c n) (part V c 1 ⟨n, h⟩) (part V c 0 ⟨n, h⟩) else acc c n

theorem acc_succ (c : Dev nD) (t : Fin cfg1.N) : acc V c (t.val + 1) = k1_pay2 (acc V c t.val) (part V c 1 t) (part V c 0 t) := dif_pos t.isLt

/-- The two further layers of what the first layer has summed. -/
def answer (c : Dev nD) (t : Fin cfg1.N) : (cfg1.win 7).block.Idx → Elt F (cfg1.win 7).elt :=
  k1_pay3 (acc V c (t.val + 1)) (part V c 4 t) (part V c 2 t) (part V c 5 t) (part V c 3 t) (part V c 6 t)

/-- The scratch holds the sum of the points before `n`, once there are any. -/
def scratch (c : Dev nD) (n : ℕ) : sProp 𝕄 :=
  iprop(∃ f : Bf (F := F) (Memref.whole cc1_scratch0), pt c (Memref.whole cc1_scratch0) f ∗ ⌜0 < n → rd (Memref.whole cc1_scratch0) f = acc V c n⌝)

/-- The other call's staging buffers, at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f))

/-- The call's proof data: its arrays as found; the inputs kept, the result as the last point computes it. -/
def dat1 (c : Dev nD) : Dat τ (Elt F) Unit ℕ (UR sig nD τ) ℕ cfg1 c where
  A w := V c (Pipeline.arrRef spec1 w)
  after w t := match w with
    | ⟨0, _⟩ => part V c 0 t
    | ⟨1, _⟩ => part V c 1 t
    | ⟨2, _⟩ => part V c 2 t
    | ⟨3, _⟩ => part V c 3 t
    | ⟨4, _⟩ => part V c 4 t
    | ⟨5, _⟩ => part V c 5 t
    | ⟨6, _⟩ => part V c 6 t
    | ⟨7, _⟩ => answer V c t
  Φ t := iprop(others c ∗ scratch V c t.val)
  q _ := fullShare
  owed _ := 0

/-- Each input is in its buffer at every point, whether it was fetched there or before. -/
theorem before0 (c : Dev nD) (t : Fin cfg1.N) (d) : (dat1 V c).before 0 t d = part V c 0 t :=
  ((dat1 V c).before_in_eq_fetched 0 rfl (fun _ => rfl) (fun _ _ _ => rfl) (fun _ => rfl) t d).trans rfl
theorem before1 (c : Dev nD) (t : Fin cfg1.N) (d) : (dat1 V c).before 1 t d = part V c 1 t :=
  ((dat1 V c).before_in_eq_fetched 1 rfl (fun _ => rfl) (fun _ _ _ => rfl) (fun _ => rfl) t d).trans rfl
theorem before2 (c : Dev nD) (t : Fin cfg1.N) (d) : (dat1 V c).before 2 t d = part V c 2 t :=
  ((dat1 V c).before_in_eq_fetched 2 rfl (fun _ => rfl) (fun _ _ _ => rfl) (fun _ => rfl) t d).trans rfl
theorem before3 (c : Dev nD) (t : Fin cfg1.N) (d) : (dat1 V c).before 3 t d = part V c 3 t :=
  ((dat1 V c).before_in_eq_fetched 3 rfl (fun _ => rfl) (fun _ _ _ => rfl) (fun _ => rfl) t d).trans rfl
theorem before4 (c : Dev nD) (t : Fin cfg1.N) (d) : (dat1 V c).before 4 t d = part V c 4 t :=
  ((dat1 V c).before_in_eq_fetched 4 rfl (fun _ => rfl) (fun _ _ _ => rfl) (fun _ => rfl) t d).trans rfl
theorem before5 (c : Dev nD) (t : Fin cfg1.N) (d) : (dat1 V c).before 5 t d = part V c 5 t :=
  ((dat1 V c).before_in_eq_fetched 5 rfl (fun _ => rfl) (fun _ _ _ => rfl) (fun _ => rfl) t d).trans rfl
theorem before6 (c : Dev nD) (t : Fin cfg1.N) (d) : (dat1 V c).before 6 t d = part V c 6 t :=
  ((dat1 V c).before_in_eq_fetched 6 rfl (fun _ => rfl) (fun _ _ _ => rfl) (fun _ => rfl) t d).trans rfl

/-- The kernel's own tests of the point: the first, and the last. -/
theorem first_iff : ∀ t : Fin grid1.N, (firstWord (grid1.coords t) = 1#1 ↔ t.val = 0) := by decide +kernel
theorem last_iff : ∀ t : Fin grid1.N, (k1_cond2 (grid1.coords t) = 1#1 ↔ t.val = 7) := by decide +kernel

/-- The result's window is left alone but at the last point, where it is written back. -/
theorem idle_iff : ∀ t : Fin grid1.N, (idle1 7 (grid1.coords t) = true ↔ t.val ≠ 7) := by decide +kernel

section Point

variable (c : Dev nD) (t : Fin cfg1.N)

/-- The staging buffers' memrefs at a point are whole. -/
abbrev w0 : (st1_0 t).IsWhole := hstage1_0 ((cfg1.slots t 0).cast nbuf1_0)
abbrev w1 : (st1_1 t).IsWhole := hstage1_1 ((cfg1.slots t 1).cast nbuf1_1)
abbrev w2 : (st1_2 t).IsWhole := hstage1_2 ((cfg1.slots t 2).cast nbuf1_2)
abbrev w3 : (st1_3 t).IsWhole := hstage1_3 ((cfg1.slots t 3).cast nbuf1_3)
abbrev w4 : (st1_4 t).IsWhole := hstage1_4 ((cfg1.slots t 4).cast nbuf1_4)
abbrev w5 : (st1_5 t).IsWhole := hstage1_5 ((cfg1.slots t 5).cast nbuf1_5)
abbrev w6 : (st1_6 t).IsWhole := hstage1_6 ((cfg1.slots t 6).cast nbuf1_6)
abbrev w7 : (st1_7 t).IsWhole := hstage1_7 ((cfg1.slots t 7).cast nbuf1_7)

/-- What the body is handed at a point, the result's buffer apart, and what it hands back there. -/
def staged (n : ℕ) : sProp 𝕄 :=
  iprop((others c ∗ scratch V c n) ∗ (dat1 V c).owesAt () t.castSucc
    ∗ owns c (st1_0 t) fullShare (part V c 0 t) ∗ owns c (st1_1 t) fullShare (part V c 1 t) ∗ owns c (st1_2 t) fullShare (part V c 2 t)
    ∗ owns c (st1_3 t) fullShare (part V c 3 t) ∗ owns c (st1_4 t) fullShare (part V c 4 t) ∗ owns c (st1_5 t) fullShare (part V c 5 t)
    ∗ owns c (st1_6 t) fullShare (part V c 6 t))

/-- The body's buffers handed back: the inputs as they were, the sum one product further, the result's buffer at `f7`. -/
theorem hand_back (n : ℕ) (X : (cfg1.win 7).block.Idx → Elt F (cfg1.win 7).elt) (f0 : Bf (F := F) (st1_0 t)) (f1 : Bf (F := F) (st1_1 t)) (f2 : Bf (F := F) (st1_2 t))
    (f3 : Bf (F := F) (st1_3 t)) (f4 : Bf (F := F) (st1_4 t)) (f5 : Bf (F := F) (st1_5 t)) (f6 : Bf (F := F) (st1_6 t)) (f7 : Bf (F := F) (st1_7 t))
    (f9 : Bf (F := F) (Memref.whole cc1_scratch0)) (hf0 : rd (st1_0 t) f0 = part V c 0 t) (hf1 : rd (st1_1 t) f1 = part V c 1 t) (hf2 : rd (st1_2 t) f2 = part V c 2 t)
    (hf3 : rd (st1_3 t) f3 = part V c 3 t) (hf4 : rd (st1_4 t) f4 = part V c 4 t) (hf5 : rd (st1_5 t) f5 = part V c 5 t) (hf6 : rd (st1_6 t) f6 = part V c 6 t)
    (hf7 : rd (st1_7 t) f7 = X) (h9 : 0 < n → rd (Memref.whole cc1_scratch0) f9 = acc V c n) :
    iprop((others c ∗ (dat1 V c).owesAt () t.castSucc)
      ∗ inputs c (st1_0 t) (st1_1 t) (st1_2 t) (st1_3 t) (st1_4 t) (st1_5 t) (st1_6 t) f0 f1 f2 f3 f4 f5 f6 ∗ pt c (st1_7 t) f7 ∗ pt c (Memref.whole cc1_scratch0) f9)
      ⊢ iprop(staged V c t n ∗ owns c (st1_7 t) fullShare X) := by
  unfold staged owns scratch
  iintro ⟨⟨Ho, Howes⟩, ⟨H0, H1, H2, H3, H4, H5, H6⟩, H7, H9⟩
  isplitr [H7]
  · isplitl [Ho H9]
    · isplitl [Ho]; · iexact Ho
      iexists _; isplitl [H9]; · iexact H9
      ipureintro; exact h9
    isplitl [Howes]; · iexact Howes
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    iexists f6; isplitr; · ipureintro; exact hf6
    iexact H6
  iexists f7; isplitr; · ipureintro; exact hf7
  iexact H7

/-- The body at a point: the sum taken one product further, and the result's buffer as it was or, at the last point, holding the answer. -/
theorem point (X : (cfg1.win 7).block.Idx → Elt F (cfg1.win 7).elt) :
    iprop(staged V c t t.val ∗ owns c (st1_7 t) fullShare X)
      ⊢ wp frame (wpE (defs₀ (F := F)) Variants.none (c : Thread nD τ) none) Set.univ (bodyAt1 (F := F) t) fun _ =>
        iprop(staged V c t (t.val + 1) ∗ owns c (st1_7 t) fullShare (if t.val = 7 then answer V c t else X)) := by
  conv => lhs; unfold staged owns scratch
  iintro ⟨⟨⟨Ho, %f9, H9, %h9⟩, Howes, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩⟩
  replace hf0 : rd (st1_0 t) f0 = part V c 0 t := hf0
  replace hf1 : rd (st1_1 t) f1 = part V c 1 t := hf1
  replace hf2 : rd (st1_2 t) f2 = part V c 2 t := hf2
  replace hf3 : rd (st1_3 t) f3 = part V c 3 t := hf3
  replace hf4 : rd (st1_4 t) f4 = part V c 4 t := hf4
  replace hf5 : rd (st1_5 t) f5 = part V c 5 t := hf5
  replace hf6 : rd (st1_6 t) f6 = part V c 6 t := hf6
  by_cases hl : k1_cond2 (grid1.coords t) = 1#1
  · have h7 := (last_iff t).mp hl
    have hf : ¬ firstWord (grid1.coords t) = 1#1 := fun h => by have := (first_iff t).mp h; omega
    have hr := last_read c (grid1.coords t) (st1_0 t) (w0 t) (st1_1 t) (w1 t) (st1_2 t) (w2 t) (st1_3 t) (w3 t) (st1_4 t) (w4 t) (st1_5 t) (w5 t) (st1_6 t) (w6 t) (st1_7 t) (w7 t) (Memref.whole cc1_scratch0) (Memref.isWhole_whole cc1_scratch0) hf hl f0 f1 f2 f3 f4 f5 f6 f7 f9
    rw [hf0, hf1, hf2, hf3, hf4, hf5, hf6, h9 (by omega), ← acc_succ] at hr
    rw [if_pos h7]
    iapply ((last c (grid1.coords t) (st1_0 t) (w0 t) (st1_1 t) (w1 t) (st1_2 t) (w2 t) (st1_3 t) (w3 t) (st1_4 t) (w4 t) (st1_5 t) (w5 t) (st1_6 t) (w6 t) (st1_7 t) (w7 t) (Memref.whole cc1_scratch0) (Memref.isWhole_whole cc1_scratch0) hf hl f0 f1 f2 f3 f4 f5 f6 f7 f9).2 Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H9]; · iexact H9
    iintro ⟨HI, H7, H9⟩
    iapply (hand_back V c t (t.val + 1) _ f0 f1 f2 f3 f4 f5 f6 _ _ hf0 hf1 hf2 hf3 hf4 hf5 hf6 (hr.2) (fun _ => hr.1))
    isplitl [Ho Howes]
    · isplitl [Ho]; · iexact Ho
      iexact Howes
    isplitl [HI]; · iexact HI
    isplitl [H7]; · iexact H7
    iexact H9
  have h7 : t.val ≠ 7 := fun h => hl ((last_iff t).mpr h)
  rw [if_neg h7]
  by_cases hf : firstWord (grid1.coords t) = 1#1
  · have h0 := (first_iff t).mp hf
    have hr := first_read c (grid1.coords t) (st1_0 t) (w0 t) (st1_1 t) (w1 t) (st1_2 t) (w2 t) (st1_3 t) (w3 t) (st1_4 t) (w4 t) (st1_5 t) (w5 t) (st1_6 t) (w6 t) (st1_7 t) (w7 t) (Memref.whole cc1_scratch0) (Memref.isWhole_whole cc1_scratch0) hf hl f0 f1 f2 f3 f4 f5 f6 f9
    rw [hf0, hf1, show k1_pay1 (F := F) = acc V c t.val from by rw [h0]; rfl, ← acc_succ] at hr
    iapply ((first c (grid1.coords t) (st1_0 t) (w0 t) (st1_1 t) (w1 t) (st1_2 t) (w2 t) (st1_3 t) (w3 t) (st1_4 t) (w4 t) (st1_5 t) (w5 t) (st1_6 t) (w6 t) (st1_7 t) (w7 t) (Memref.whole cc1_scratch0) (Memref.isWhole_whole cc1_scratch0) hf hl f0 f1 f2 f3 f4 f5 f6 f9).2 Set.univ f7 _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H9]; · iexact H9
    iintro ⟨HI, H7, H9⟩
    iapply (hand_back V c t (t.val + 1) _ f0 f1 f2 f3 f4 f5 f6 f7 _ hf0 hf1 hf2 hf3 hf4 hf5 hf6 (hf7) (fun _ => hr))
    isplitl [Ho Howes]
    · isplitl [Ho]; · iexact Ho
      iexact Howes
    isplitl [HI]; · iexact HI
    isplitl [H7]; · iexact H7
    iexact H9
  · have h0 : t.val ≠ 0 := fun h => hf ((first_iff t).mpr h)
    have hr := middle_read c (grid1.coords t) (st1_0 t) (w0 t) (st1_1 t) (w1 t) (st1_2 t) (w2 t) (st1_3 t) (w3 t) (st1_4 t) (w4 t) (st1_5 t) (w5 t) (st1_6 t) (w6 t) (st1_7 t) (w7 t) (Memref.whole cc1_scratch0) (Memref.isWhole_whole cc1_scratch0) hf hl f0 f1 f2 f3 f4 f5 f6 f9
    rw [hf0, hf1, h9 (by omega), ← acc_succ] at hr
    iapply ((middle c (grid1.coords t) (st1_0 t) (w0 t) (st1_1 t) (w1 t) (st1_2 t) (w2 t) (st1_3 t) (w3 t) (st1_4 t) (w4 t) (st1_5 t) (w5 t) (st1_6 t) (w6 t) (st1_7 t) (w7 t) (Memref.whole cc1_scratch0) (Memref.isWhole_whole cc1_scratch0) hf hl f0 f1 f2 f3 f4 f5 f6 f9).2 Set.univ f7 _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H9]; · iexact H9
    iintro ⟨HI, H7, H9⟩
    iapply (hand_back V c t (t.val + 1) _ f0 f1 f2 f3 f4 f5 f6 f7 _ hf0 hf1 hf2 hf3 hf4 hf5 hf6 (hf7) (fun _ => hr))
    isplitl [Ho Howes]
    · isplitl [Ho]; · iexact Ho
      iexact Howes
    isplitl [HI]; · iexact HI
    isplitl [H7]; · iexact H7
    iexact H9

end Point

/-- The body at a point takes the inputs and the sum so far to the next sum, and at the last point to the result. -/
theorem dense_obligation (c : Dev nD) : BodyObligation (dat1 V c) (defs₀ (F := F)) Variants.none () Set.univ := fun t => by
  rw [bigSep_W1, bigSep_W1]
  simp only [before0, before1, before2, before3, before4, before5, before6]
  rw [show (dat1 V c).Φ t.castSucc = iprop(others c ∗ scratch V c t.val) from rfl, show (dat1 V c).Φ t.succ = iprop(others c ∗ scratch V c (t.val + 1)) from rfl,
    show (dat1 V c).owesAt () t.succ = (dat1 V c).owesAt () t.castSucc from rfl]
  iintro ⟨⟨Ho, Hs⟩, Howes, ⟨%_, H0⟩, ⟨%_, H1⟩, ⟨%_, H2⟩, ⟨%_, H3⟩, ⟨%_, H4⟩, ⟨%_, H5⟩, ⟨%_, H6⟩, ⟨%d7, H7⟩⟩
  iapply (wp_wand_r Idealize.ShloMosaic.frame (wpE (defs₀ (F := F)) Variants.none (c : Thread nD τ) none) Set.univ)
  isplitl [Ho Hs Howes H0 H1 H2 H3 H4 H5 H6 H7]
  · iapply (point V c t ((dat1 V c).before 7 t d7))
    unfold staged
    isplitr [H7]; swap; · iexact H7
    isplitl [Ho Hs]
    · isplitl [Ho]; · iexact Ho
      iexact Hs
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  · unfold staged
    iintro %_ ⟨⟨⟨Ho, Hs⟩, Howes, H0, H1, H2, H3, H4, H5, H6⟩, H7⟩
    isplitl [Ho Hs]
    · isplitl [Ho]; · iexact Ho
      iexact Hs
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    by_cases h7 : t.val = 7
    · rw [if_pos h7, show idle1 7 (grid1.coords t) = false from Bool.eq_false_iff.mpr fun h => (idle_iff t).mp h h7]
      iexact H7
    · rw [if_neg h7, show idle1 7 (grid1.coords t) = true from (idle_iff t).mpr h7,
        show (win1 7).flush t = false from Bool.eq_false_iff.mpr fun h => h7 (by have h1 := (flush1_7 t).mp h; have h2 : t.val < grid1.N := t.isLt; rw [N_1] at h2; omega)]
      iexists d7
      iexact H7

end Cert.KernelIdeal.Run

end
-- ==== Proof.Ideal.Regions.lean ====
/-
  The two pallas_calls as regions of the program: entered with every unscoped buffer held at given contents, left with the
  result's array replaced.
-/
module

public import proofs.«01_k».proof.Proof.Ideal.CircuitCall
public import proofs.«01_k».proof.Proof.Ideal.DenseCall
public import proofs.«01_k».proof.Proof.Gen.KernelIdeal.Regions
public import Idealize.ShloMosaic.Lib.Pipeline.RegionsLoop

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation RegionSeg)

variable {F : FTy → Type} [FloatOps F]

local notation "𝕄" => MT nD τ sig Unit (Elt F) ℕ (UR sig nD τ) ℕ

/-- The two calls' proof data, the first entered at `V`, the second at `W`. -/
def data (V W : Vals (F := F)) : (p : Fin 2) → (c : Dev nD) → Dat τ (Elt F) Unit ℕ (UR sig nD τ) ℕ (cfgs p) c
  | ⟨0, _⟩ => fun c => dat0 V c
  | ⟨1, _⟩ => fun c => dat1 W c

/-- No core owes another anything. -/
abbrev noDues : GSem nD τ sig → Finset Unit := fun _ => ∅
abbrev noLevel : GSem nD τ sig → Unit → ℕ := fun _ _ => 0

/-- A core's thread state between items: its unscoped buffers, and nothing owed. -/
def between (V : Vals (F := F)) (c : Dev nD) : sProp 𝕄 :=
  iprop(unscopedBufs c (V c) ∗ ∃ W, owes (c : Thread nD τ) (0 : CellTallies nD τ sig Unit) W)

variable (V W Vp Wp : Vals (F := F))

set_option backward.isDefEq.respectTransparency.types false in
/-- The circuit's call as a region. -/
def circuitRegion (hout : ∀ c, Vp c main_call0_v55 = (dat0 V c).arrAt 2 cfg0.N) (hne : ∀ c (b : Ref sig .tc), b ≠ main_call0_v55 → Vp c b = V c b) :
    RegionSeg (pcfgs (F := F)) adm (data V W) () defs₀ Variants.none noDues noLevel 0 where
  win := launch0.win.to₀
  block_pos := launch0.block_pos
  stage_whole := launch0.stage_whole
  K := PEmpty
  osem k := k.elim
  ho := Pipeline.OwnSemFacts.none _
  hbody c := (circuit_obligation V c).loose
  hwaits := Pipeline.hwaits_of_owed_zero _ _ _ _ noDues noLevel 0 fun _ _ => rfl
  pre c := between V c
  post c := between Vp c
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm (data V W) launch0.win launch0.arr_whole c
      ((data V W 0 c).share_full fun _ => rfl) (V c) fun _ => rfl
    unfold between
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (data V W 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (data V W 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (data V W) ((data V W 0 c).share_full fun _ => rfl) (V c) (Vp c) ((data V W 0 c).arrAt · cfg0.N)
      (fun w => by
        fin_cases w
        · exact ((data V W 0 c).arrAt_in 0 rfl _).trans (hne c main_call0_v53 (by decide)).symm
        · exact ((data V W 0 c).arrAt_in 1 rfl _).trans (hne c main_call0_v54 (by decide)).symm
        · exact (hout c).symm)
      (fun b hb => hne c b fun h => hb (h ▸ Finset.mem_image.mpr ⟨2, Finset.mem_univ _, rfl⟩))
    unfold between
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The network's call as a region. -/
def denseRegion (hout : ∀ c, Wp c main_call0_v59 = (dat1 W c).arrAt 7 cfg1.N) (hne : ∀ c (b : Ref sig .tc), b ≠ main_call0_v59 → Wp c b = W c b) :
    RegionSeg (pcfgs (F := F)) adm (data V W) () defs₀ Variants.none noDues noLevel 1 where
  win := launch1.win.to₀
  block_pos := launch1.block_pos
  stage_whole := launch1.stage_whole
  K := PEmpty
  osem k := k.elim
  ho := Pipeline.OwnSemFacts.none _
  hbody c := (dense_obligation W c).loose
  hwaits := Pipeline.hwaits_of_owed_zero _ _ _ _ noDues noLevel 1 fun _ _ => rfl
  pre c := between W c
  post c := between Wp c
  X _ := BI.emp
  Y _ := BI.emp
  Z c := Pipeline.unscopedRest (Ix := Unit) (Name := ℕ) (U := UR sig nD τ) (Lvl := ℕ) spec1 c (W c)
  hentry c := by
    rw [Pipeline.ownSems0_none]
    have hsplit := Pipeline.arrays_of_unscopedBufs (p := 1) (pcfgs (F := F)) adm (data V W) launch1.win launch1.arr_whole c
      ((data V W 1 c).share_full fun _ => rfl) (W c) fun _ => rfl
    unfold between
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (data V W 1 c).Φ 0 = iprop(others c ∗ scratch W c 0) from rfl]
    rw [show (Pipeline.scopedRest (Ix := Unit) (Name := ℕ) (U := UR sig nD τ) (Lvl := ℕ) (Val := Elt F) (Pipeline.pin (pcfgs (F := F)) adm 1).spec c) = _ from scopedRest1_eq c]
    unfold others scratch
    iintro ⟨-, -, Ha, Hb, Hc, %f, Hd⟩
    isplitl [Ha Hb Hc]
    · isplitl [Ha]; · iexact Ha
      isplitl [Hb]; · iexact Hb
      iexact Hc
    iexists f
    isplitl [Hd]
    · unfold Cert.KernelIdeal.Circuit.pt; simp only [Memref.view_whole, View.set_whole]; iexact Hd
    ipureintro; intro h; exact absurd h (lt_irrefl 0)
  hout c := by
    rw [Pipeline.ownSems0_none, show (data V W 1 c).Φ (Fin.last _) = iprop(others c ∗ scratch W c (Fin.last cfg1.N).val) from rfl]
    rw [show (Pipeline.scopedRest (Ix := Unit) (Name := ℕ) (U := UR sig nD τ) (Lvl := ℕ) (Val := Elt F) (Pipeline.pin (pcfgs (F := F)) adm 1).spec c) = _ from scopedRest1_eq c]
    unfold others scratch
    iintro ⟨⟨Ha, Hb, Hc⟩, %f, Hd, -⟩
    isplitr; · iempintro
    isplitr; · iempintro
    isplitl [Ha]; · iexact Ha
    isplitl [Hb]; · iexact Hb
    isplitl [Hc]; · iexact Hc
    iexists f
    unfold Cert.KernelIdeal.Circuit.pt; simp only [Memref.view_whole, View.set_whole]; iexact Hd
  hexit c := by
    have hjoin := Pipeline.unscopedBufs_of_arrays (p := 1) (pcfgs (F := F)) adm (Ix := Unit) (Name := ℕ) (U := UR sig nD τ) (Lvl := ℕ) launch1.win launch1.arr_whole c
      (data V W) ((data V W 1 c).share_full fun _ => rfl) (W c) (Wp c) ((data V W 1 c).arrAt · cfg1.N)
      (fun w => by
        fin_cases w
        · exact ((data V W 1 c).arrAt_in 0 rfl _).trans (hne c main_call0_v55 (by decide)).symm
        · exact ((data V W 1 c).arrAt_in 1 rfl _).trans (hne c main_arg3 (by decide)).symm
        · exact ((data V W 1 c).arrAt_in 2 rfl _).trans (hne c main_arg5 (by decide)).symm
        · exact ((data V W 1 c).arrAt_in 3 rfl _).trans (hne c main_arg7 (by decide)).symm
        · exact ((data V W 1 c).arrAt_in 4 rfl _).trans (hne c main_call0_v56 (by decide)).symm
        · exact ((data V W 1 c).arrAt_in 5 rfl _).trans (hne c main_call0_v57 (by decide)).symm
        · exact ((data V W 1 c).arrAt_in 6 rfl _).trans (hne c main_call0_v58 (by decide)).symm
        · exact (hout c).symm)
      (fun b hb => hne c b fun h => hb (h ▸ Finset.mem_image.mpr ⟨7, Finset.mem_univ _, rfl⟩))
    unfold between
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Run

end
-- ==== Proof.Ideal.Run.lean ====
/-
  The whole program's run: every fair execution ends, with the result as the last valuation has it, the arguments as launched
  and every semaphore at zero.
-/
module

public import proofs.«01_k».proof.Proof.Ideal.Regions

@[expose] public section

set_option maxRecDepth 16384
set_option maxHeartbeats 1000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ (UR sig nD τ) ℕ

variable (m : (ℓ : Loc nD τ sig) → Buf (Elt F) ℓ)

/-- The contents the circuit's call is entered with, and the probabilities it leaves. -/
def atCircuit : Vals (F := F) := fun c b => V1 m c b
def probs (c : Dev nD) : Buf (Elt F) ((c : Thread nD τ).loc main_call0_v55) := (dat0 (atCircuit m) c).arrAt 2 cfg0.N

/-- What the circuit's call leaves, over what it found. -/
def afterCircuit : Outs (F := F) := fun _ r c => (Function.update (V1 m c) (Proc.devRef (τ := τ) .tc main_call0_v55) (probs m c)) (Proc.devRef (τ := τ) .tc r)

/-- The contents the network's call is entered with, and the result it leaves. -/
def atDense : Vals (F := F) := fun c b => V3 m (afterCircuit m) c b
def logits (c : Dev nD) : Buf (Elt F) ((c : Thread nD τ).loc main_call0_v59) := (dat1 (atDense m) c).arrAt 7 cfg1.N

/-- What the two calls leave. -/
def outs : Outs (F := F) := fun J r c =>
  if J = 2 then afterCircuit m J r c
  else (Function.update (V3 m (afterCircuit m) c) (Proc.devRef (τ := τ) .tc main_call0_v59) (logits m c)) (Proc.devRef (τ := τ) .tc r)

theorem outs_probs (c : Dev nD) : outs m 2 main_call0_v55 c = probs m c := by
  unfold outs afterCircuit; rw [if_pos rfl, Function.update_self]
theorem outs_logits (c : Dev nD) : outs m 4 main_call0_v59 c = logits m c := by
  unfold outs; rw [if_neg (by decide), Function.update_self]
theorem V2_outs (c : Dev nD) : V2 m (outs m) c = V2 m (afterCircuit m) c := by
  unfold V2; rw [outs_probs]; unfold afterCircuit; rw [Function.update_self]
theorem V3_outs (c : Dev nD) : V3 m (outs m) c = V3 m (afterCircuit m) c := by
  unfold V3; rw [V2_outs]

/-- The two regions of this run. -/
def region0 : RegionSeg (pcfgs (F := F)) adm (data (atCircuit m) (atDense m)) () defs₀ Variants.none noDues noLevel 0 :=
  circuitRegion (atCircuit m) (atDense m) (fun c b => V2 m (outs m) c b)
    (fun c => by unfold V2; rw [Function.update_self, outs_probs]; rfl)
    (fun c b hb => V2_of m (outs m) c b (by simpa using hb))
def region1 : RegionSeg (pcfgs (F := F)) adm (data (atCircuit m) (atDense m)) () defs₀ Variants.none noDues noLevel 1 :=
  denseRegion (atCircuit m) (atDense m) (fun c b => V4 m (outs m) c b)
    (fun c => by unfold V4; rw [Function.update_self, outs_logits]; rfl)
    (fun c b hb => (V4_of m (outs m) c b (by simpa using hb)).trans (by rw [V3_outs]; rfl))

/-- What rides beside the buffers: nothing owed. -/
def rest : Fin 3 → Dev nD → sProp 𝕄 := fun _ c => iprop(∃ W, owes (c : Thread nD τ) (0 : CellTallies nD τ sig Unit) W)

/-- A valuation's buffers held are those of the state between items. -/
theorem between_held (W : Dev nD → Valuation τ sig (Elt F)) (c : Dev nD) :
    between (fun c b => W c b) c = iprop(StableHlo.held (c : Thread nD τ) (Pipeline.ucRefs τ sig) (W c) ∗ rest 0 c) := by
  unfold between rest; rw [Pipeline.unscopedBufs_held]

theorem state_before_dense (c : Dev nD) :
    (iprop(StableHlo.held (c : Thread nD τ) (Pipeline.ucRefs τ sig) (V3 m (outs m) c) ∗ rest 1 c) : sProp 𝕄) = between (atDense m) c := by
  rw [V3_outs]; exact (between_held (V3 m (afterCircuit m)) c).symm

set_option backward.isDefEq.respectTransparency.types false in
/-- From any memory with zero counters every fair execution ends, the result being what the last valuation holds, the arguments
    unchanged and the counters at zero. -/
theorem run (ρ : Dev nD → PrngReg) :
    θ_run defs (onTc (τ := τ) (main (F := F))) ⟨m, fun _ => 0, ρ⟩ (fun r => (∀ c : Dev nD,
      r.2.mem ((c.tc : Thread nD τ).loc main_v0) = V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine Pipeline.θ_run_regions_kit_dev_sems (pcfgs (F := F)) adm (data (atCircuit m) (atDense m)) () cellOf_inj
    ((Emb.refl (UR sig nD τ)).trans (uEmb (nD := nD) (τ := τ) (sig := sig) (Ix := Unit) (Val := Elt F) (Name := ℕ) (U := UR sig nD τ) (Lvl := ℕ)).toEmb) defs₀ Variants.none noDues noLevel m ρ main
    (segs m (outs m) Variants.none noDues noLevel rest () (data (atCircuit m) (atDense m)) (region0 m) (region1 m))
    (fun c Q => by
      rewrite [main_chain c, Seg.run_eq_chain,
        show (segs m (outs m) Variants.none noDues noLevel rest () (data (atCircuit m) (atDense m)) (region0 m) (region1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own (((Emb.refl (UR sig nD τ)).trans (uEmb (nD := nD) (τ := τ) (sig := sig) (Ix := Unit) (Val := Elt F) (Name := ℕ) (U := UR sig nD τ) (Lvl := ℕ)).toEmb)
            (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V5 m (outs m) c))
    (hch := fun c => ⟨.rfl, Entails.of_eq (between_held (V1 m) c).symm, Entails.of_eq (between_held (V2 m (outs m)) c),
      Entails.of_eq (state_before_dense m c), Entails.of_eq (between_held (V4 m (outs m)) c), .rfl⟩)
    (hinit := by
      refine Pipeline.initEach noDues noLevel fun c => ?_
      rw [show unscopedBufs c (fun b => m ((c : Thread nD τ).loc b)) = StableHlo.held (c : Thread nD τ) (Pipeline.ucRefs τ sig) (V0 m c) from Pipeline.unscopedBufs_held c (V0 m c)]
      unfold rest
      iintro ⟨⟨Hh, -, HO, -, -, -⟩, -⟩
      imodintro
      isplitl [Hh]; · iexact Hh
      iexists ∅; iexact HO)
    (QY := fun c s => s.mem ((c.tc : Thread nD τ).loc main_v0) = V5 m (outs m) c main_v0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    have hb (r : Ref sig .tc) (hr : ¬ (Proc.devRef (τ := τ) .tc r).isScoped) := h (Proc.devRef .tc r) (Finset.mem_filter.mpr ⟨StableHlo.devRef_mem_tcRefs r, hr⟩)
    exact ⟨hb main_v0 (by decide), (hb main_arg0 (by decide)).trans (V5_main_arg0 m (outs m) c), (hb main_arg1 (by decide)).trans (V5_main_arg1 m (outs m) c),
      (hb main_arg2 (by decide)).trans (V5_main_arg2 m (outs m) c), (hb main_arg3 (by decide)).trans (V5_main_arg3 m (outs m) c),
      (hb main_arg4 (by decide)).trans (V5_main_arg4 m (outs m) c), (hb main_arg5 (by decide)).trans (V5_main_arg5 m (outs m) c),
      (hb main_arg6 (by decide)).trans (V5_main_arg6 m (outs m) c), (hb main_arg7 (by decide)).trans (V5_main_arg7 m (outs m) c),
      (hb main_arg8 (by decide)).trans (V5_main_arg8 m (outs m) c)⟩
  iexact HSI

end Cert.KernelIdeal.Run

end
-- ==== Proof.Common.Gates.lean ====
/-
  The gates of the circuit on a state array: rows are the basis states, columns the samples.
-/
module

public import proofs.«01_k».proof.Proof.Common.Rows
public import Mathlib.Data.EReal.Operations
public import Mathlib.Tactic.IntervalCases

@[expose] public section

noncomputable section

namespace Cert.Gates

open Idealize.ShloMosaic Idealize.ShloMosaic.ValueIdx Cert.Rows

/-- A basis state with bit `q` turned over. -/
def turn (q r : ℕ) : ℕ := if r / 2 ^ q % 2 = 0 then r + 2 ^ q else r - 2 ^ q

/-- The rotation of qubit `q`: `co` and `si` are the cosine and the sine of half the angle, one per sample. -/
def ry (q : ℕ) (co si : Fin 128 → EReal) (X : Arr.Idx → EReal) : Arr.Idx → EReal := fun y =>
  if row y / 2 ^ q % 2 = 0 then co (col y) * X y - si (col y) * X (at2 (turn q (row y)) (col y))
  else si (col y) * X (at2 (turn q (row y)) (col y)) + co (col y) * X y

/-- The CNOT from qubit `a` to qubit `t`. -/
def cnot (a t : ℕ) (X : Arr.Idx → EReal) : Arr.Idx → EReal := fun y =>
  if row y / 2 ^ a % 2 = 0 then X y else X (at2 (turn t (row y)) (col y))

/-- The rotations of qubits `0 … n - 1`, with one row of cosines and sines per qubit. -/
def rotations (co si : ℕ → Fin 128 → EReal) (X : Arr.Idx → EReal) : ℕ → Arr.Idx → EReal
  | 0 => X
  | n + 1 => ry n (co n) (si n) (rotations co si X n)

/-- The CNOTs from qubit `i` to qubit `i + 1`, for `i < n`. -/
def chain (X : Arr.Idx → EReal) : ℕ → Arr.Idx → EReal
  | 0 => X
  | n + 1 => cnot n (n + 1) (chain X n)

/-- One layer: rotations, the ring of CNOTs, rotations. Its rows of cosines and sines are the 30 from row `30 l` on. -/
def layer (co si : ℕ → Fin 128 → EReal) (l : ℕ) (X : Arr.Idx → EReal) : Arr.Idx → EReal :=
  rotations (fun q => co (30 * l + 15 + q)) (fun q => si (30 * l + 15 + q))
    (cnot 14 0 (chain (rotations (fun q => co (30 * l + q)) (fun q => si (30 * l + q)) X 15) 14)) 15

/-- The state with all of its weight on basis state 0. -/
def start : Arr.Idx → EReal := fun y => if row y = 0 then 1 else 0

/-- The first `n` layers from the start. -/
def layers (co si : ℕ → Fin 128 → EReal) : ℕ → Arr.Idx → EReal
  | 0 => start
  | n + 1 => layer co si n (layers co si n)

/-! ## Gates block by block -/

/-- What a block's update must do to be the rotation of qubit `q`, one of the nine within a block. -/
def Rotates (q : ℕ) (co si : Fin 128 → EReal) (pay : (Blk.Idx → EReal) → Blk.Idx → EReal) : Prop :=
  ∀ (Y : Blk.Idx → EReal) (r : Fin 512) (j : Fin 128), pay Y (ix2 r j) =
    if r.val / 2 ^ q % 2 = 0 then co j * Y (ix2 r j) - si j * Y (in2 (turn q r.val) j)
    else si j * Y (in2 (turn q r.val) j) + co j * Y (ix2 r j)

/-- What a block's update must do to be the CNOT from qubit `a` to qubit `t`, both within a block. -/
def Flips (a t : ℕ) (pay : (Blk.Idx → EReal) → Blk.Idx → EReal) : Prop :=
  ∀ (Y : Blk.Idx → EReal) (r : Fin 512) (j : Fin 128), pay Y (ix2 r j) =
    if r.val / 2 ^ a % 2 = 0 then Y (ix2 r j) else Y (in2 (turn t r.val) j)

/-- The low nine bits of a basis state are those of its row within its block. -/
theorem bit_block (q : ℕ) (hq : q < 9) (r : ℕ) : r % 512 / 2 ^ q % 2 = r / 2 ^ q % 2 := by
  interval_cases q <;> simp only [Nat.reducePow] <;> omega

theorem turn_block (q : ℕ) (hq : q < 9) (r : ℕ) : 512 * (r / 512) + turn q (r % 512) % 512 = turn q r := by
  unfold turn
  rw [bit_block q hq]
  interval_cases q <;> simp only [Nat.reducePow] <;> split <;> omega

/-- A block's entries are the array's. -/
theorem get_in2 (X : Arr.Idx → EReal) (o s : ℕ) (j : Fin 128) : get o X (in2 s j) = X (at2 (o + s % 512) j) := rfl

theorem get_own (X : Arr.Idx → EReal) (y : Arr.Idx) : get (512 * blk y) X (in2 (row y) (col y)) = X y := by
  rw [get_in2]
  refine (congrArg (fun n => X (at2 n (col y))) ?_).trans (congrArg X (at2_row y))
  simp only [row, blk]; omega

theorem get_turn (X : Arr.Idx → EReal) (q : ℕ) (hq : q < 9) (y : Arr.Idx) :
    get (512 * blk y) X (in2 (turn q (row y % 512)) (col y)) = X (at2 (turn q (row y)) (col y)) := by
  rw [get_in2]
  exact congrArg (fun n => X (at2 n (col y))) (turn_block q hq (row y))

theorem sweep_ry (q : ℕ) (hq : q < 9) (co si : Fin 128 → EReal) (pay : (Blk.Idx → EReal) → Blk.Idx → EReal)
    (h : Rotates q co si pay) (X : Arr.Idx → EReal) : sweep pay X = ry q co si X := by
  funext y
  unfold sweep ry
  refine (h _ _ _).trans ?_
  dsimp only
  rw [bit_block q hq, get_turn X q hq, get_own]

theorem sweep_cnot (a t : ℕ) (ha : a < 9) (ht : t < 9) (pay : (Blk.Idx → EReal) → Blk.Idx → EReal)
    (h : Flips a t pay) (X : Arr.Idx → EReal) : sweep pay X = cnot a t X := by
  funext y
  unfold sweep cnot
  refine (h _ _ _).trans ?_
  dsimp only
  rw [bit_block a ha, get_turn X t ht, get_own]

/-! ## Entries as a block's update spells them -/

/-- The two halves of a rotation, each with its own spelling of the entries it reads. -/
theorem rotates_entry (q : ℕ) (hq : q < 9) (C S : EReal) (Y : Fin 512 → EReal) (r : Fin 512) {p : Prop} [Decidable p] (a b : p → Fin 512)
    (a' b' : ¬ p → Fin 512) (hp : p ↔ r.val / 2 ^ q % 2 = 0)
    (ha : ∀ h, r.val / 2 ^ q % 2 = 0 → (a h).val = r.val) (hb : ∀ h, r.val / 2 ^ q % 2 = 0 → (b h).val = r.val + 2 ^ q)
    (ha' : ∀ h, r.val / 2 ^ q % 2 ≠ 0 → (a' h).val = r.val - 2 ^ q) (hb' : ∀ h, r.val / 2 ^ q % 2 ≠ 0 → (b' h).val = r.val) :
    (if h : p then C * Y (a h) - S * Y (b h) else S * Y (a' h) + C * Y (b' h))
      = if r.val / 2 ^ q % 2 = 0 then C * Y r - S * Y ⟨turn q r.val % 512, Nat.mod_lt _ (by norm_num)⟩
        else S * Y ⟨turn q r.val % 512, Nat.mod_lt _ (by norm_num)⟩ + C * Y r := by
  have hr := r.isLt
  by_cases h : p
  · have h0 := hp.1 h
    have hlt := (b h).isLt
    have eb : b h = ⟨turn q r.val % 512, Nat.mod_lt _ (by norm_num)⟩ := Fin.ext (by
      show (b h).val = turn q r.val % 512
      unfold turn; rw [if_pos h0, ← hb h h0]; omega)
    rw [dif_pos h, if_pos h0, Fin.ext (ha h h0), eb]
  · have h0 := fun e => h (hp.2 e)
    have ea : a' h = ⟨turn q r.val % 512, Nat.mod_lt _ (by norm_num)⟩ := Fin.ext (by
      show (a' h).val = turn q r.val % 512
      unfold turn; rw [if_neg h0, ← ha' h h0]; have := (a' h).isLt; omega)
    rw [dif_neg h, if_neg h0, Fin.ext (hb' h h0), ea]

/-- A flip of the target bit, each half with its own spelling of the entry it reads. -/
theorem flips_entry (t : ℕ) (Y : Fin 512 → EReal) (r : Fin 512) {p : Prop} [Decidable p] (a : p → Fin 512) (a' : ¬ p → Fin 512)
    (hp : p ↔ r.val / 2 ^ t % 2 = 0) (ha : ∀ h, r.val / 2 ^ t % 2 = 0 → (a h).val = r.val + 2 ^ t)
    (ha' : ∀ h, r.val / 2 ^ t % 2 ≠ 0 → (a' h).val = r.val - 2 ^ t) :
    (if h : p then Y (a h) else Y (a' h)) = Y ⟨turn t r.val % 512, Nat.mod_lt _ (by norm_num)⟩ := by
  by_cases h : p
  · have h0 := hp.1 h
    rw [dif_pos h]
    refine congrArg Y (Fin.ext ?_)
    show (a h).val = turn t r.val % 512
    unfold turn; rw [if_pos h0, ← ha h h0]; have := (a h).isLt; omega
  · have h0 := fun e => h (hp.2 e)
    rw [dif_neg h]
    refine congrArg Y (Fin.ext ?_)
    show (a' h).val = turn t r.val % 512
    unfold turn; rw [if_neg h0, ← ha' h h0]; have := (a' h).isLt; omega

end Cert.Gates

end
-- ==== Proof.Common.Loops.lean ====
/-
  Loops over blocks of rows: a loop that updates every block on its own, and a loop that updates blocks two by two. Which gate
  such a loop is, when the blocks it takes are the ones that differ in one bit.
-/
module

public import proofs.«01_k».proof.Proof.Common.Gates

@[expose] public section

set_option maxRecDepth 16384

noncomputable section

namespace Cert.Gates

open Idealize.ShloMosaic Idealize.ShloMosaic.ValueIdx Cert.Rows

section View

variable {sig : RefSig} {κ : Kind} {sp : Space} {e : EltTy} {Val : EltTy → Type} (v : View sig κ sp Arr e) (G : v.ty.Contents Val)

/-- A loop whose trip `k` loads block `k` and stores what `pay` makes of it. -/
theorem one_block (pay : (Blk.Idx → Val e) → Blk.Idx → Val e) (pb : ℕ → List (View.Piece Val Arr e)) {n N : ℕ} (hn : n = 64) (hN : N = 64) (off : Fin n → Fin 2 → ℕ)
    (inb : ∀ k, ∀ a, off k a + Blk.size a ≤ Arr.size a) (hoff : ∀ k, off k = ![512 * k.val, 0]) (h0 : pb 0 = [])
    (hs : ∀ k : Fin n, pb (k.val + 1) = [(⟨Rect.unit (s := Arr) (off k) Blk.size (inb k),
      pay (v.readAt Val (Rect.unit (s := Arr) (off k) Blk.size (inb k)).toLoadRect (v.writes Val G (pb k.val)))⟩ : View.Piece Val Arr e)] ++ pb k.val) :
    v.read Val (v.writes Val G (pb N)) = sweep pay (v.read Val G) := by
  subst hn hN
  have e0 : v.read Val (v.writes Val G (pb 0)) = v.read Val G := by rw [h0]; rfl
  rw [← e0]
  refine sweep_read pay (fun k => v.read Val (v.writes Val G (pb k))) fun k hk => ?_
  have e := hs ⟨k, hk⟩
  dsimp only at e ⊢
  rw [e, List.singleton_append, read_rows v G (inb ⟨k, hk⟩) _ _ (hoff ⟨k, hk⟩), readAt_rows v _ (inb ⟨k, hk⟩) (hoff ⟨k, hk⟩)]

/-- A loop whose trip `k` loads blocks `a k` and `b k` and stores what `payA` and `payB` make of the two. -/
theorem two_blocks {n n' N : ℕ} (hn : n' = n) (hN : N = n) (a b own : ℕ → ℕ) (payA payB : (Blk.Idx → Val e) → (Blk.Idx → Val e) → Blk.Idx → Val e)
    (hown : ∀ k, k < n → a k < 64 ∧ b k < 64 ∧ a k ≠ b k ∧ own (a k) = k ∧ own (b k) = k)
    (hblk : ∀ r, r < 64 → own r < n → r = a (own r) ∨ r = b (own r))
    (pb : ℕ → List (View.Piece Val Arr e)) (offA offB : Fin n' → Fin 2 → ℕ)
    (inA : ∀ k, ∀ x, offA k x + Blk.size x ≤ Arr.size x) (inB : ∀ k, ∀ x, offB k x + Blk.size x ≤ Arr.size x)
    (hA : ∀ k, offA k = ![512 * a k.val, 0]) (hB : ∀ k, offB k = ![512 * b k.val, 0]) (h0 : pb 0 = [])
    (hs : ∀ k : Fin n', pb (k.val + 1) =
      [(⟨Rect.unit (s := Arr) (offB k) Blk.size (inB k),
        payB (v.readAt Val (Rect.unit (s := Arr) (offA k) Blk.size (inA k)).toLoadRect (v.writes Val G (pb k.val)))
          (v.readAt Val (Rect.unit (s := Arr) (offB k) Blk.size (inB k)).toLoadRect (v.writes Val G (pb k.val)))⟩ : View.Piece Val Arr e),
       (⟨Rect.unit (s := Arr) (offA k) Blk.size (inA k),
        payA (v.readAt Val (Rect.unit (s := Arr) (offA k) Blk.size (inA k)).toLoadRect (v.writes Val G (pb k.val)))
          (v.readAt Val (Rect.unit (s := Arr) (offB k) Blk.size (inB k)).toLoadRect (v.writes Val G (pb k.val)))⟩ : View.Piece Val Arr e)] ++ pb k.val) :
    v.read Val (v.writes Val G (pb N)) = pairs n a b own payA payB (v.read Val G) := by
  subst hn hN
  have e0 : v.read Val (v.writes Val G (pb 0)) = v.read Val G := by rw [h0]; rfl
  rw [← e0]
  refine pairs_read _ a b own payA payB hown hblk (fun k => v.read Val (v.writes Val G (pb k))) fun k hk => ?_
  have e := hs ⟨k, hk⟩
  dsimp only at e ⊢
  rw [e, List.cons_append, List.singleton_append, read_rows v G (inB ⟨k, hk⟩) _ _ (hB ⟨k, hk⟩), read_rows v G (inA ⟨k, hk⟩) _ _ (hA ⟨k, hk⟩),
    readAt_rows v _ (inA ⟨k, hk⟩) (hA ⟨k, hk⟩), readAt_rows v _ (inB ⟨k, hk⟩) (hB ⟨k, hk⟩)]

/-- A loop whose trip `k` loads block `32 + k` and stores what `pay` makes of it. -/
theorem upper_blocks (pay : (Blk.Idx → Val e) → Blk.Idx → Val e) (pb : ℕ → List (View.Piece Val Arr e)) {n N : ℕ} (hn : n = 32) (hN : N = 32) (off : Fin n → Fin 2 → ℕ)
    (inb : ∀ k, ∀ a, off k a + Blk.size a ≤ Arr.size a) (hoff : ∀ k, off k = ![512 * (32 + k.val), 0]) (h0 : pb 0 = [])
    (hs : ∀ k : Fin n, pb (k.val + 1) = [(⟨Rect.unit (s := Arr) (off k) Blk.size (inb k),
      pay (v.readAt Val (Rect.unit (s := Arr) (off k) Blk.size (inb k)).toLoadRect (v.writes Val G (pb k.val)))⟩ : View.Piece Val Arr e)] ++ pb k.val)
    (y : Arr.Idx) :
    v.read Val (v.writes Val G (pb N)) y
      = if blk y < 32 then v.read Val G y else pay (get (512 * blk y) (v.read Val G)) (in2 (row y) (col y)) := by
  subst hn hN
  have e0 : v.read Val (v.writes Val G (pb 0)) = v.read Val G := by rw [h0]; rfl
  have h := trips_read 32 (fun k Y => put (512 * (32 + k)) (pay (get (512 * (32 + k)) Y)) Y) (fun y => if blk y < 32 then 32 else blk y - 32)
    (fun k hk Y Y' y hy hYY => by
      have hy' : blk y = 32 + k := by split at hy <;> omega
      show put _ _ _ _ = put _ _ _ _
      rw [put_blk _ _ _ y hy', put_blk _ _ _ y hy', get_congr (32 + k) (by omega) Y Y' fun z hz => hYY z (by rw [if_neg (by omega)]; omega)])
    (fun k hk Y y hy => put_ne _ _ _ y fun h => hy (by rw [if_neg (by omega)]; omega))
    (fun k => v.read Val (v.writes Val G (pb k))) (fun k hk => by
      have e := hs ⟨k, hk⟩
      dsimp only at e ⊢
      rw [e, List.singleton_append, read_rows v G (inb ⟨k, hk⟩) _ _ (hoff ⟨k, hk⟩), readAt_rows v _ (inb ⟨k, hk⟩) (hoff ⟨k, hk⟩)]) y
  have hb := blk_lt y
  rw [h, e0]
  by_cases hy : blk y < 32
  · rw [if_neg (by rw [if_pos hy]; omega), if_pos hy]
  · rw [if_pos (by rw [if_neg hy]; omega), if_neg hy, if_neg hy, put_blk _ _ _ y (by omega)]
    rw [show 32 + (blk y - 32) = blk y by omega]

end View

/-- The two blocks of trip `k` that differ in bit `t`, and the trip of a block. -/
def lowBlock (t k : ℕ) : ℕ := k / 2 ^ t * 2 ^ (t + 1) + k % 2 ^ t
def highBlock (t k : ℕ) : ℕ := lowBlock t k + 2 ^ t
def tripOf (t r : ℕ) : ℕ := r / 2 ^ (t + 1) * 2 ^ t + r % 2 ^ t

theorem blocks_own (t : ℕ) (ht : t < 6) : ∀ k, k < 32 → lowBlock t k < 64 ∧ highBlock t k < 64 ∧ lowBlock t k ≠ highBlock t k ∧
    tripOf t (lowBlock t k) = k ∧ tripOf t (highBlock t k) = k := by
  revert t; decide +kernel

theorem blocks_all (t : ℕ) (ht : t < 6) : ∀ r, r < 64 → tripOf t r < 32 → r = lowBlock t (tripOf t r) ∨ r = highBlock t (tripOf t r) := by
  revert t; decide +kernel

/-- For a block: its trip, and which of the trip's two it is. -/
theorem block_low (t : ℕ) (ht : t < 6) : ∀ r, r < 64 → tripOf t r < 32 ∧
    (r / 2 ^ t % 2 = 0 → lowBlock t (tripOf t r) = r ∧ highBlock t (tripOf t r) = r + 2 ^ t) ∧
    (r / 2 ^ t % 2 ≠ 0 → lowBlock t (tripOf t r) = r - 2 ^ t ∧ highBlock t (tripOf t r) = r ∧ 2 ^ t ≤ r) := by
  revert t; decide +kernel

theorem get_at (X : Arr.Idx → EReal) (o s : ℕ) (j : Fin 128) : get o X (in2 s j) = X (at2 (o + s % 512) j) := rfl

/-- The bits above the ninth are those of the block. -/
theorem bit_high (t r : ℕ) : r / 2 ^ (9 + t) % 2 = r / 512 / 2 ^ t % 2 := by
  rw [Nat.pow_add, Nat.div_div_eq_div_mul]

/-- A loop over the pairs of blocks that differ in bit `t` is the rotation of qubit `9 + t`. -/
theorem pairs_ry (t : ℕ) (ht : t < 6) (co si : Fin 128 → EReal) (payA payB : (Blk.Idx → EReal) → (Blk.Idx → EReal) → Blk.Idx → EReal)
    (hA : ∀ A B (r : Fin 512) (j : Fin 128), payA A B (ix2 r j) = co j * A (ix2 r j) - si j * B (ix2 r j))
    (hB : ∀ A B (r : Fin 512) (j : Fin 128), payB A B (ix2 r j) = si j * A (ix2 r j) + co j * B (ix2 r j)) (X : Arr.Idx → EReal) :
    pairs 32 (lowBlock t) (highBlock t) (tripOf t) payA payB X = ry (9 + t) co si X := by
  funext y
  have hy := row_lt y
  obtain ⟨h1, h2, h3⟩ := block_low t ht (blk y) (blk_lt y)
  have hp : (2 : ℕ) ^ (9 + t) = 512 * 2 ^ t := by rw [Nat.pow_add]
  have hpos : 0 < 2 ^ t := Nat.two_pow_pos t
  have hbit : row y / 2 ^ (9 + t) % 2 = blk y / 2 ^ t % 2 := bit_high t (row y)
  have hown : X (at2 (512 * blk y + row y % 512) (col y)) = X y := by
    refine (congrArg (fun n => X (at2 n (col y))) ?_).trans (congrArg X (at2_row y))
    simp only [row, blk]; omega
  unfold pairs ry
  rw [if_pos h1, hbit]
  by_cases h : blk y / 2 ^ t % 2 = 0
  · obtain ⟨e1, e2⟩ := h2 h
    rw [if_neg (by omega), if_pos h, e1, e2]
    refine (hA _ _ _ _).trans ?_
    have et : X (at2 (512 * (blk y + 2 ^ t) + row y % 512) (col y)) = X (at2 (turn (9 + t) (row y)) (col y)) := by
      refine congrArg (fun n => X (at2 n (col y))) ?_
      unfold turn; rw [hbit, if_pos h, hp]; simp only [row, blk] at *; omega
    refine congr (congrArg _ (congrArg _ ?_)) (congrArg _ ?_)
    · exact (get_at X _ (row y) _).trans hown
    · exact (get_at X _ (row y) _).trans et
  · obtain ⟨e1, e2, e3⟩ := h3 h
    rw [if_pos (by omega), if_neg h, e1, e2]
    refine (hB _ _ _ _).trans ?_
    have et : X (at2 (512 * (blk y - 2 ^ t) + row y % 512) (col y)) = X (at2 (turn (9 + t) (row y)) (col y)) := by
      refine congrArg (fun n => X (at2 n (col y))) ?_
      unfold turn; rw [hbit, if_neg h, hp]; simp only [row, blk] at *; omega
    refine congr (congrArg _ (congrArg _ ?_)) (congrArg _ ?_)
    · exact (get_at X _ (row y) _).trans et
    · exact (get_at X _ (row y) _).trans hown

/-- A loop over the neighbouring blocks, exchanging the rows that have bit 8, is the CNOT from qubit 8 to qubit 9. -/
theorem pairs_cnot8 (payA payB : (Blk.Idx → EReal) → (Blk.Idx → EReal) → Blk.Idx → EReal)
    (hA : ∀ A B (r : Fin 512) (j : Fin 128), payA A B (ix2 r j) = if r.val / 2 ^ 8 % 2 = 0 then A (ix2 r j) else B (ix2 r j))
    (hB : ∀ A B (r : Fin 512) (j : Fin 128), payB A B (ix2 r j) = if r.val / 2 ^ 8 % 2 = 0 then B (ix2 r j) else A (ix2 r j)) (X : Arr.Idx → EReal) :
    pairs 32 (lowBlock 0) (highBlock 0) (tripOf 0) payA payB X = cnot 8 9 X := by
  funext y
  have hy := row_lt y
  obtain ⟨h1, h2, h3⟩ := block_low 0 (by norm_num) (blk y) (blk_lt y)
  have hbit := bit_block 8 (by norm_num) (row y)
  have hown : X (at2 (512 * blk y + row y % 512) (col y)) = X y := by
    refine (congrArg (fun n => X (at2 n (col y))) ?_).trans (congrArg X (at2_row y))
    simp only [row, blk]; omega
  unfold pairs cnot
  rw [if_pos h1]
  by_cases h : blk y / 2 ^ 0 % 2 = 0
  · obtain ⟨e1, e2⟩ := h2 h
    rw [if_neg (by omega), e1, e2]
    refine (hA _ _ _ _).trans ?_
    dsimp only
    rw [hbit]
    refine congr (congrArg _ ((get_at X _ (row y) _).trans hown)) ((get_at X _ (row y) _).trans ?_)
    refine congrArg (fun n => X (at2 n (col y))) ?_
    unfold turn; simp only [row, blk, Nat.reducePow] at *; rw [if_pos (by omega)]; omega
  · obtain ⟨e1, e2, e3⟩ := h3 h
    rw [if_pos (by omega), e1, e2]
    refine (hB _ _ _ _).trans ?_
    dsimp only
    rw [hbit]
    refine congr (congrArg _ ((get_at X _ (row y) _).trans hown)) ((get_at X _ (row y) _).trans ?_)
    refine congrArg (fun n => X (at2 n (col y))) ?_
    unfold turn; simp only [row, blk, Nat.reducePow] at *; rw [if_neg (by omega)]; omega

/-- The blocks of trip `k` that have bit `i` and differ in bit `i + 1`; the trip of such a block. -/
def lowSet (i k : ℕ) : ℕ := k / 2 ^ i * 2 ^ (i + 2) + 2 ^ i + k % 2 ^ i
def highSet (i k : ℕ) : ℕ := lowSet i k + 2 ^ (i + 1)
def tripSet (i r : ℕ) : ℕ := if r / 2 ^ i % 2 = 0 then 16 else r / 2 ^ (i + 2) * 2 ^ i + r % 2 ^ i

theorem set_own (i : ℕ) (hi : i < 5) : ∀ k, k < 16 → lowSet i k < 64 ∧ highSet i k < 64 ∧ lowSet i k ≠ highSet i k ∧
    tripSet i (lowSet i k) = k ∧ tripSet i (highSet i k) = k := by
  revert i; decide +kernel

theorem set_all (i : ℕ) (hi : i < 5) : ∀ r, r < 64 → tripSet i r < 16 → r = lowSet i (tripSet i r) ∨ r = highSet i (tripSet i r) := by
  revert i; decide +kernel

set_option synthInstance.maxSize 1024 in
theorem set_low (i : ℕ) (hi : i < 5) : ∀ r, r < 64 → (r / 2 ^ i % 2 = 0 → ¬ tripSet i r < 16) ∧ (r / 2 ^ i % 2 ≠ 0 → tripSet i r < 16 ∧
    (r / 2 ^ (i + 1) % 2 = 0 → lowSet i (tripSet i r) = r ∧ highSet i (tripSet i r) = r + 2 ^ (i + 1)) ∧
    (r / 2 ^ (i + 1) % 2 ≠ 0 → lowSet i (tripSet i r) = r - 2 ^ (i + 1) ∧ highSet i (tripSet i r) = r ∧ 2 ^ (i + 1) ≤ r)) := by
  revert i; decide +kernel

/-- A loop that exchanges the blocks that have bit `i` and differ in bit `i + 1` is the CNOT from qubit `9 + i` to the next. -/
theorem pairs_cnot (i : ℕ) (hi : i < 5) (payA payB : (Blk.Idx → EReal) → (Blk.Idx → EReal) → Blk.Idx → EReal)
    (hA : ∀ A B, payA A B = B) (hB : ∀ A B, payB A B = A) (X : Arr.Idx → EReal) :
    pairs 16 (lowSet i) (highSet i) (tripSet i) payA payB X = cnot (9 + i) (9 + i + 1) X := by
  funext y
  have hy := row_lt y
  obtain ⟨h1, h2⟩ := set_low i hi (blk y) (blk_lt y)
  have hbit : row y / 2 ^ (9 + i) % 2 = blk y / 2 ^ i % 2 := bit_high i (row y)
  have hbit' : row y / 2 ^ (9 + i + 1) % 2 = blk y / 2 ^ (i + 1) % 2 := bit_high (i + 1) (row y)
  have hp : (2 : ℕ) ^ (9 + i + 1) = 512 * 2 ^ (i + 1) := by rw [show 9 + i + 1 = 9 + (i + 1) by omega, Nat.pow_add]
  have hpos : 0 < 2 ^ (i + 1) := Nat.two_pow_pos _
  unfold pairs cnot
  rw [hbit]
  by_cases h : blk y / 2 ^ i % 2 = 0
  · rw [if_pos h, if_neg (h1 h)]
  · obtain ⟨h3, h4, h5⟩ := h2 h
    rw [if_neg h, if_pos h3]
    by_cases h' : blk y / 2 ^ (i + 1) % 2 = 0
    · obtain ⟨e1, e2⟩ := h4 h'
      rw [if_neg (by omega), hA, e2, get_at]
      refine congrArg (fun n => X (at2 n (col y))) ?_
      unfold turn; rw [hbit', if_pos h', hp]; simp only [row, blk] at *; omega
    · obtain ⟨e1, e2, e3⟩ := h5 h'
      rw [if_pos (by omega), hB, e1, get_at]
      refine congrArg (fun n => X (at2 n (col y))) ?_
      unfold turn; rw [hbit', if_neg h', hp]; simp only [row, blk] at *; omega

/-- A flip of bit 0 in every row of the upper half of the blocks is the CNOT from qubit 14 to qubit 0. -/
theorem upper_cnot (pay : (Blk.Idx → EReal) → Blk.Idx → EReal)
    (h : ∀ Y (r : Fin 512) (j : Fin 128), pay Y (ix2 r j) = Y (in2 (turn 0 r.val) j)) (X : Arr.Idx → EReal) (y : Arr.Idx) :
    (if blk y < 32 then X y else pay (get (512 * blk y) X) (in2 (row y) (col y))) = cnot 14 0 X y := by
  have hy := row_lt y
  unfold cnot
  by_cases hb : blk y < 32
  · rw [if_pos hb, if_pos (by simp only [row, blk, Nat.reducePow] at *; omega)]
  · rw [if_neg hb, if_neg (by simp only [row, blk, Nat.reducePow] at *; omega)]
    exact (h _ _ _).trans (get_turn X 0 (by norm_num) y)

end Cert.Gates

end
-- ==== Proof.Ideal.Payloads.lean ====
/-
  What the circuit's body stores, read at an entry: each update of one block of rows is a rotation or a CNOT within the block.
-/
module

public import proofs.«01_k».proof.Proof.Common.Gates
public import proofs.«01_k».proof.Proof.Gen.KernelIdeal.Skeleton
public import Idealize.ShloMosaic.Lib.Pointwise

@[expose] public section

set_option maxRecDepth 16384

noncomputable section

namespace Cert.KernelIdeal.Circuit

open Cert.KernelIdeal Cert.KernelIdeal.Gen Cert.Gates Cert.Rows
open Idealize.ShloMosaic Idealize.ShloMosaic.TcCoe

/-- The 128 entries of one row of the cosines or the sines. -/
def lane (v : Vec Ideal S1x1x128 .f32) : Fin 128 → EReal := fun j => v (ix3 0 0 j)

/-- The two spellings of a block's entry are one. -/
theorem entry_eq (r : Fin 512) (j : Fin 128) : (ValueIdx.ix2 r j : Blk.Idx) = ix2 r j := rfl

/-- The nine rotations within a block, first time in the layer. -/
theorem first_rotations (v w : Vec Ideal S1x1x128 .f32) :
    Rotates 0 (lane v) (lane w) (k0_pay12 v w) ∧ Rotates 1 (lane v) (lane w) (k0_pay13 v w) ∧
    Rotates 2 (lane v) (lane w) (k0_pay15 (k0_pay14 v) w) ∧ Rotates 3 (lane v) (lane w) (k0_pay16 v w) ∧
    Rotates 4 (lane v) (lane w) (k0_pay17 v w) ∧ Rotates 5 (lane v) (lane w) (k0_pay18 v w) ∧
    Rotates 6 (lane v) (lane w) (k0_pay19 v w) ∧ Rotates 7 (lane v) (lane w) (k0_pay20 v w) ∧
    Rotates 8 (lane v) (lane w) (k0_pay21 v w) := by
  refine ⟨?_, ?_, ?_, ?_, ?_, ?_, ?_, ?_, ?_⟩ <;> intro Y r j <;> have hr := r.isLt <;>
    (rw [entry_eq]; pointwise [k0_pay12, k0_pay13, k0_pay14, k0_pay15, k0_pay16, k0_pay17, k0_pay18, k0_pay19, k0_pay20, k0_pay21]) <;>
    refine rotates_entry _ (by norm_num) _ _ (fun i => Y (ix2 i j)) r _ _ _ _ ?_ ?_ ?_ ?_ ?_ <;> intros <;>
    first | omega | (dsimp only at *; omega)

/-- The nine rotations within a block, second time in the layer. -/
theorem second_rotations (v w : Vec Ideal S1x1x128 .f32) :
    Rotates 0 (lane v) (lane w) (k0_pay45 v w) ∧ Rotates 1 (lane v) (lane w) (k0_pay46 v w) ∧
    Rotates 2 (lane v) (lane w) (k0_pay48 (k0_pay47 v) w) ∧ Rotates 3 (lane v) (lane w) (k0_pay49 v w) ∧
    Rotates 4 (lane v) (lane w) (k0_pay50 v w) ∧ Rotates 5 (lane v) (lane w) (k0_pay51 v w) ∧
    Rotates 6 (lane v) (lane w) (k0_pay52 v w) ∧ Rotates 7 (lane v) (lane w) (k0_pay3 (k0_pay53 v) (k0_pay54 w)) ∧
    Rotates 8 (lane v) (lane w) (k0_pay4 v w) := by
  refine ⟨?_, ?_, ?_, ?_, ?_, ?_, ?_, ?_, ?_⟩ <;> intro Y r j <;> have hr := r.isLt <;>
    (rw [entry_eq]; pointwise [k0_pay3, k0_pay4, k0_pay45, k0_pay46, k0_pay47, k0_pay48, k0_pay49, k0_pay50, k0_pay51, k0_pay52, k0_pay53, k0_pay54]) <;>
    refine rotates_entry _ (by norm_num) _ _ (fun i => Y (ix2 i j)) r _ _ _ _ ?_ ?_ ?_ ?_ ?_ <;> intros <;>
    first | omega | (dsimp only at *; omega)

/-- Whether bit `a` of a small word is set, as the kernel tests it. -/
theorem bit_word (a : ℕ) (ha : a < 9) (r : Fin 512) :
    IntOp.cmpi .eq (IntOp.andi (IntOp.shrsi .vector (BitVec.ofNat 32 r.val) (BitVec.ofNat 32 a)) 1#32) 1#32
      = BitVec.ofBool (decide (r.val / 2 ^ a % 2 ≠ 0)) := by
  revert r
  interval_cases a <;> decide +kernel

/-- A flip under the test of the control bit. -/
theorem flips_of (a t : ℕ) (ha : a < 9) (Y : Blk.Idx → EReal) (r : Fin 512) (j : Fin 128) (z : EReal)
    (hz : z = Y (in2 (turn t r.val) j)) :
    Scalar.select (IntOp.cmpi .eq (IntOp.andi (IntOp.shrsi .vector (BitVec.ofNat 32 r.val) (BitVec.ofNat 32 a)) 1#32) 1#32) z (Y (ix2 r j))
      = if r.val / 2 ^ a % 2 = 0 then Y (ix2 r j) else Y (in2 (turn t r.val) j) := by
  rw [bit_word a ha, hz]
  by_cases h : r.val / 2 ^ a % 2 = 0
  · rw [if_pos h, decide_eq_false (not_not.2 h)]; rfl
  · rw [if_neg h, decide_eq_true h]; rfl

/-- The eight CNOTs within a block. -/
theorem flips :
    Flips 0 1 (k0_pay28 (F := Ideal)) ∧ Flips 1 2 (k0_pay29 (F := Ideal)) ∧ Flips 2 3 (k0_pay30 (F := Ideal)) ∧ Flips 3 4 (k0_pay31 (F := Ideal)) ∧
    Flips 4 5 (k0_pay32 (F := Ideal)) ∧ Flips 5 6 (k0_pay34 (F := Ideal) k0_pay33) ∧ Flips 6 7 (k0_pay35 (F := Ideal)) ∧ Flips 7 8 (k0_pay36 (F := Ideal)) := by
  refine ⟨?_, ?_, ?_, ?_, ?_, ?_, ?_, ?_⟩ <;> intro Y r j <;> have hr := r.isLt <;>
    (rw [entry_eq]; pointwise [k0_pay28, k0_pay29, k0_pay30, k0_pay31, k0_pay32, k0_pay33, k0_pay34, k0_pay35, k0_pay36]) <;>
    refine flips_of _ _ (by norm_num) Y r j _ ((flips_entry _ (fun i => Y (ix2 i j)) r _ _ ?_ ?_ ?_).trans rfl) <;> intros <;>
    first | omega | (dsimp only at *; omega)

/-- The last CNOT turns bit 0 of every row of the blocks it visits. -/
theorem last_flip (Y : Blk.Idx → EReal) (r : Fin 512) (j : Fin 128) : k0_pay44 (F := Ideal) Y (ValueIdx.ix2 r j) = Y (in2 (turn 0 r.val) j) := by
  have hr := r.isLt
  rw [entry_eq]
  pointwise [k0_pay44]
  refine (flips_entry 0 (fun i => Y (ix2 i j)) r _ _ ?_ ?_ ?_).trans rfl <;> intros <;>
    first | omega | (dsimp only at *; omega)

/-- The two halves of a rotation between blocks. -/
theorem halves (v w : Vec Ideal S1x1x128 .f32) (A B : Blk.Idx → EReal) (r : Fin 512) (j : Fin 128) :
    k0_pay26 v w A B (ValueIdx.ix2 r j) = lane v j * A (ValueIdx.ix2 r j) - lane w j * B (ValueIdx.ix2 r j) ∧
    k0_pay27 v w A B (ValueIdx.ix2 r j) = lane w j * A (ValueIdx.ix2 r j) + lane v j * B (ValueIdx.ix2 r j) ∧
    k0_pay9 v w A B (ValueIdx.ix2 r j) = lane v j * A (ValueIdx.ix2 r j) - lane w j * B (ValueIdx.ix2 r j) ∧
    k0_pay10 v w A B (ValueIdx.ix2 r j) = lane w j * A (ValueIdx.ix2 r j) + lane v j * B (ValueIdx.ix2 r j) := by
  refine ⟨?_, ?_, ?_, ?_⟩ <;>
    (rw [entry_eq]; pointwise [k0_pay5, k0_pay6, k0_pay7, k0_pay8, k0_pay9, k0_pay10, k0_pay22, k0_pay23, k0_pay24, k0_pay25, k0_pay26, k0_pay27]) <;> rfl

/-- Between two blocks a CNOT under bit 8 of the row exchanges the rows that have the bit. -/
theorem exchange (A B : Blk.Idx → EReal) (r : Fin 512) (j : Fin 128) :
    k0_pay40 (F := Ideal) A B (ValueIdx.ix2 r j) = (if r.val / 2 ^ 8 % 2 = 0 then A (ValueIdx.ix2 r j) else B (ValueIdx.ix2 r j)) ∧
    k0_pay41 (F := Ideal) A B (ValueIdx.ix2 r j) = (if r.val / 2 ^ 8 % 2 = 0 then B (ValueIdx.ix2 r j) else A (ValueIdx.ix2 r j)) := by
  have e := bit_word 8 (by norm_num) r
  refine ⟨?_, ?_⟩ <;> (rw [entry_eq]; pointwise [k0_pay37, k0_pay38, k0_pay39, k0_pay40, k0_pay41]) <;>
    (refine (congrArg (fun b => Scalar.select b _ _) e).trans ?_
     by_cases h : r.val / 2 ^ 8 % 2 = 0
     · rw [if_pos h, decide_eq_false (not_not.2 h)]; rfl
     · rw [if_neg h, decide_eq_true h]; rfl)

/-- A block moved as it is, zeros, and squares. -/
theorem moved (A : Blk.Idx → EReal) : k0_pay42 (F := Ideal) A = A ∧ k0_pay43 (F := Ideal) A = A := by
  refine ⟨funext fun z => ?_, funext fun z => ?_⟩ <;> (idx_vars z; pointwise [k0_pay42, k0_pay43])

theorem zeros : k0_pay1 (F := Ideal) = fun _ => (0 : EReal) := by
  funext z; idx_vars z; pointwise [k0_pay1]

theorem squares (A : Blk.Idx → EReal) : k0_pay11 (F := Ideal) A = fun z => A z * A z := by
  funext z; idx_vars z; pointwise [k0_pay11]

/-- The eight rows stored after the zeros: a one in row 0. -/
theorem first_rows (r : Fin 8) (j : Fin 128) : k0_pay2 (F := Ideal) (ValueIdx.ix2 r j) = if r.val = 0 then 1 else 0 := by
  rw [show (ValueIdx.ix2 r j : (⟨2, ![8, 128]⟩ : Shape).Idx) = ix2 r j from rfl]
  pointwise [k0_pay2]
  fin_cases r <;> rfl

end Cert.KernelIdeal.Circuit

end
-- ==== Proof.Ideal.LoopGates.lean ====
/-
  Each loop of the circuit's body is a gate: what the state array reads after it, from what it reads before.
-/
module

public import proofs.«01_k».proof.Proof.Common.Loops
public import proofs.«01_k».proof.Proof.Ideal.Payloads
public import proofs.«01_k».proof.Proof.Ideal.Start

@[expose] public section

set_option maxRecDepth 16384

noncomputable section

namespace Cert.KernelIdeal.Circuit

open Cert.KernelIdeal Cert.KernelIdeal.Gen Cert.Rows Cert.Gates
open Idealize.ShloMosaic Idealize.ShloMosaic.TcCoe

/-- The trips of a loop over all blocks, over half of them and over a quarter. -/
abbrev all64 : ℕ := Scf.trips (0#32) (Scalar.addi 0#32 64#32) 1#32
abbrev all32 : ℕ := Scf.trips (0#32) (Scalar.addi 0#32 32#32) 1#32
abbrev all16 : ℕ := Scf.trips (0#32) (Scalar.addi 0#32 16#32) 1#32

variable (c : Dev nD) (arg0 : Memref sig .tc .vmem S90x1x128 .f32) (harg0 : arg0.IsWhole) (arg1 : Memref sig .tc .vmem S90x1x128 .f32)
  (harg1 : arg1.IsWhole) (arg2 : Memref sig .tc .vmem S32768x128 .f32) (harg2 : arg2.IsWhole)

/-- What the state array reads when its buffer holds `f`. -/
abbrev seen (f : Bf (F := Ideal) arg2) : Arr.Idx → EReal := arg2.view.read (Elt Ideal) f

variable (G : Bf (F := Ideal) arg2) (k : Fin k0_t2_loop.trips) (b b' : BitVec 32) (v w : Vec Ideal S1x1x128 .f32) (u : FVec Ideal S1x128 .f32)
  (i : IVec S512x128 1)

/-! ## The first nine rotations of a layer -/

theorem loop3 : seen arg2 (arg2.view.writes (Elt Ideal) G (pb_k0_t3 Variants.none c none arg0 harg0 arg1 harg1 arg2 harg2 b b' k v w G all64))
    = ry 0 (lane v) (lane w) (seen arg2 G) :=
  (one_block arg2.view G (k0_pay12 v w) (pb_k0_t3 Variants.none c none arg0 harg0 arg1 harg1 arg2 harg2 b b' k v w G) (by decide) (by decide) k0_off3 k0_off3_inb k0_off3_eq rfl
    fun k => by rw [pb_k0_t3_succ]; unfold tripL_k0_t3 trip_k0_t3; rfl).trans (sweep_ry 0 (by norm_num) _ _ _ (first_rotations v w).1 _)

theorem loop4 : seen arg2 (arg2.view.writes (Elt Ideal) G (pb_k0_t4 Variants.none c none arg0 harg0 arg1 harg1 arg2 harg2 b b' k v w G all64))
    = ry 1 (lane v) (lane w) (seen arg2 G) :=
  (one_block arg2.view G (k0_pay13 v w) (pb_k0_t4 Variants.none c none arg0 harg0 arg1 harg1 arg2 harg2 b b' k v w G) (by decide) (by decide) k0_off4 k0_off4_inb k0_off4_eq rfl
    fun k => by rw [pb_k0_t4_succ]; unfold tripL_k0_t4 trip_k0_t4; rfl).trans (sweep_ry 1 (by norm_num) _ _ _ (first_rotations v w).2.1 _)

theorem loop5 : seen arg2 (arg2.view.writes (Elt Ideal) G (pb_k0_t5 Variants.none c none arg0 harg0 arg1 harg1 arg2 harg2 k b (k0_pay14 v) w G all64))
    = ry 2 (lane v) (lane w) (seen arg2 G) :=
  (one_block arg2.view G (k0_pay15 (k0_pay14 v) w) (pb_k0_t5 Variants.none c none arg0 harg0 arg1 harg1 arg2 harg2 k b (k0_pay14 v) w G) (by decide) (by decide) k0_off5 k0_off5_inb k0_off5_eq rfl
    fun k => by rw [pb_k0_t5_succ]; unfold tripL_k0_t5 trip_k0_t5; rfl).trans (sweep_ry 2 (by norm_num) _ _ _ (first_rotations v w).2.2.1 _)

theorem loop6 : seen arg2 (arg2.view.writes (Elt Ideal) G (pb_k0_t6 Variants.none c none arg0 harg0 arg1 harg1 arg2 harg2 k b u v w G all64))
    = ry 3 (lane v) (lane w) (seen arg2 G) :=
  (one_block arg2.view G (k0_pay16 v w) (pb_k0_t6 Variants.none c none arg0 harg0 arg1 harg1 arg2 harg2 k b u v w G) (by decide) (by decide) k0_off6 k0_off6_inb k0_off6_eq rfl
    fun k => by rw [pb_k0_t6_succ]; unfold tripL_k0_t6 trip_k0_t6; rfl).trans (sweep_ry 3 (by norm_num) _ _ _ (first_rotations v w).2.2.2.1 _)

theorem loop7 : seen arg2 (arg2.view.writes (Elt Ideal) G (pb_k0_t7 Variants.none c none arg0 harg0 arg1 harg1 arg2 harg2 k b u v w G all64))
    = ry 4 (lane v) (lane w) (seen arg2 G) :=
  (one_block arg2.view G (k0_pay17 v w) (pb_k0_t7 Variants.none c none arg0 harg0 arg1 harg1 arg2 harg2 k b u v w G) (by decide) (by decide) k0_off7 k0_off7_inb k0_off7_eq rfl
    fun k => by rw [pb_k0_t7_succ]; unfold tripL_k0_t7 trip_k0_t7; rfl).trans (sweep_ry 4 (by norm_num) _ _ _ (first_rotations v w).2.2.2.2.1 _)

theorem loop8 : seen arg2 (arg2.view.writes (Elt Ideal) G (pb_k0_t8 Variants.none c none arg0 harg0 arg1 harg1 arg2 harg2 k b b' v w G all64))
    = ry 5 (lane v) (lane w) (seen arg2 G) :=
  (one_block arg2.view G (k0_pay18 v w) (pb_k0_t8 Variants.none c none arg0 harg0 arg1 harg1 arg2 harg2 k b b' v w G) (by decide) (by decide) k0_off8 k0_off8_inb k0_off8_eq rfl
    fun k => by rw [pb_k0_t8_succ]; unfold tripL_k0_t8 trip_k0_t8; rfl).trans (sweep_ry 5 (by norm_num) _ _ _ (first_rotations v w).2.2.2.2.2.1 _)

theorem loop9 : seen arg2 (arg2.view.writes (Elt Ideal) G (pb_k0_t9 Variants.none c none arg0 harg0 arg1 harg1 arg2 harg2 k b b' v w G all64))
    = ry 6 (lane v) (lane w) (seen arg2 G) :=
  (one_block arg2.view G (k0_pay19 v w) (pb_k0_t9 Variants.none c none arg0 harg0 arg1 harg1 arg2 harg2 k b b' v w G) (by decide) (by decide) k0_off9 k0_off9_inb k0_off9_eq rfl
    fun k => by rw [pb_k0_t9_succ]; unfold tripL_k0_t9 trip_k0_t9; rfl).trans (sweep_ry 6 (by norm_num) _ _ _ (first_rotations v w).2.2.2.2.2.2.1 _)

theorem loop10 : seen arg2 (arg2.view.writes (Elt Ideal) G (pb_k0_t10 Variants.none c none arg0 harg0 arg1 harg1 arg2 harg2 k b b' v w G all64))
    = ry 7 (lane v) (lane w) (seen arg2 G) :=
  (one_block arg2.view G (k0_pay20 v w) (pb_k0_t10 Variants.none c none arg0 harg0 arg1 harg1 arg2 harg2 k b b' v w G) (by decide) (by decide) k0_off10 k0_off10_inb k0_off10_eq rfl
    fun k => by rw [pb_k0_t10_succ]; unfold tripL_k0_t10 trip_k0_t10; rfl).trans (sweep_ry 7 (by norm_num) _ _ _ (first_rotations v w).2.2.2.2.2.2.2.1 _)

theorem loop11 : seen arg2 (arg2.view.writes (Elt Ideal) G (pb_k0_t11 Variants.none c none arg0 harg0 arg1 harg1 arg2 harg2 k b v w G all64))
    = ry 8 (lane v) (lane w) (seen arg2 G) :=
  (one_block arg2.view G (k0_pay21 v w) (pb_k0_t11 Variants.none c none arg0 harg0 arg1 harg1 arg2 harg2 k b v w G) (by decide) (by decide) k0_off11 k0_off11_inb k0_off11_eq rfl
    fun k => by rw [pb_k0_t11_succ]; unfold tripL_k0_t11 trip_k0_t11; rfl).trans (sweep_ry 8 (by norm_num) _ _ _ (first_rotations v w).2.2.2.2.2.2.2.2 _)

/-! ## The nine rotations after the CNOTs -/

theorem loop26 : seen arg2 (arg2.view.writes (Elt Ideal) G (pb_k0_t26 Variants.none c none arg0 harg0 arg1 harg1 arg2 harg2 k b b' v w G all64))
    = ry 0 (lane v) (lane w) (seen arg2 G) :=
  (one_block arg2.view G (k0_pay45 v w) (pb_k0_t26 Variants.none c none arg0 harg0 arg1 harg1 arg2 harg2 k b b' v w G) (by decide) (by decide) k0_off29 k0_off29_inb k0_off29_eq rfl
    fun k => by rw [pb_k0_t26_succ]; unfold tripL_k0_t26 trip_k0_t26; rfl).trans (sweep_ry 0 (by norm_num) _ _ _ (second_rotations v w).1 _)

theorem loop27 : seen arg2 (arg2.view.writes (Elt Ideal) G (pb_k0_t27 Variants.none c none arg0 harg0 arg1 harg1 arg2 harg2 k b b' v w G all64))
    = ry 1 (lane v) (lane w) (seen arg2 G) :=
  (one_block arg2.view G (k0_pay46 v w) (pb_k0_t27 Variants.none c none arg0 harg0 arg1 harg1 arg2 harg2 k b b' v w G) (by decide) (by decide) k0_off30 k0_off30_inb k0_off30_eq rfl
    fun k => by rw [pb_k0_t27_succ]; unfold tripL_k0_t27 trip_k0_t27; rfl).trans (sweep_ry 1 (by norm_num) _ _ _ (second_rotations v w).2.1 _)

theorem loop28 : seen arg2 (arg2.view.writes (Elt Ideal) G (pb_k0_t28 Variants.none c none arg0 harg0 arg1 harg1 arg2 harg2 k b b' (k0_pay47 v) w G all64))
    = ry 2 (lane v) (lane w) (seen arg2 G) :=
  (one_block arg2.view G (k0_pay48 (k0_pay47 v) w) (pb_k0_t28 Variants.none c none arg0 harg0 arg1 harg1 arg2 harg2 k b b' (k0_pay47 v) w G) (by decide) (by decide) k0_off31 k0_off31_inb k0_off31_eq rfl
    fun k => by rw [pb_k0_t28_succ]; unfold tripL_k0_t28 trip_k0_t28; rfl).trans (sweep_ry 2 (by norm_num) _ _ _ (second_rotations v w).2.2.1 _)

theorem loop29 : seen arg2 (arg2.view.writes (Elt Ideal) G (pb_k0_t29 Variants.none c none arg0 harg0 arg1 harg1 arg2 harg2 k b b' u v w G all64))
    = ry 3 (lane v) (lane w) (seen arg2 G) :=
  (one_block arg2.view G (k0_pay49 v w) (pb_k0_t29 Variants.none c none arg0 harg0 arg1 harg1 arg2 harg2 k b b' u v w G) (by decide) (by decide) k0_off32 k0_off32_inb k0_off32_eq rfl
    fun k => by rw [pb_k0_t29_succ]; unfold tripL_k0_t29 trip_k0_t29; rfl).trans (sweep_ry 3 (by norm_num) _ _ _ (second_rotations v w).2.2.2.1 _)

theorem loop30 : seen arg2 (arg2.view.writes (Elt Ideal) G (pb_k0_t30 Variants.none c none arg0 harg0 arg1 harg1 arg2 harg2 k b b' u v w G all64))
    = ry 4 (lane v) (lane w) (seen arg2 G) :=
  (one_block arg2.view G (k0_pay50 v w) (pb_k0_t30 Variants.none c none arg0 harg0 arg1 harg1 arg2 harg2 k b b' u v w G) (by decide) (by decide) k0_off33 k0_off33_inb k0_off33_eq rfl
    fun k => by rw [pb_k0_t30_succ]; unfold tripL_k0_t30 trip_k0_t30; rfl).trans (sweep_ry 4 (by norm_num) _ _ _ (second_rotations v w).2.2.2.2.1 _)

theorem loop31 : seen arg2 (arg2.view.writes (Elt Ideal) G (pb_k0_t31 Variants.none c none arg0 harg0 arg1 harg1 arg2 harg2 k b b' v w G all64))
    = ry 5 (lane v) (lane w) (seen arg2 G) :=
  (one_block arg2.view G (k0_pay51 v w) (pb_k0_t31 Variants.none c none arg0 harg0 arg1 harg1 arg2 harg2 k b b' v w G) (by decide) (by decide) k0_off34 k0_off34_inb k0_off34_eq rfl
    fun k => by rw [pb_k0_t31_succ]; unfold tripL_k0_t31 trip_k0_t31; rfl).trans (sweep_ry 5 (by norm_num) _ _ _ (second_rotations v w).2.2.2.2.2.1 _)

theorem loop32 : seen arg2 (arg2.view.writes (Elt Ideal) G (pb_k0_t32 Variants.none c none arg0 harg0 arg1 harg1 arg2 harg2 k b b' v w G all64))
    = ry 6 (lane v) (lane w) (seen arg2 G) :=
  (one_block arg2.view G (k0_pay52 v w) (pb_k0_t32 Variants.none c none arg0 harg0 arg1 harg1 arg2 harg2 k b b' v w G) (by decide) (by decide) k0_off35 k0_off35_inb k0_off35_eq rfl
    fun k => by rw [pb_k0_t32_succ]; unfold tripL_k0_t32 trip_k0_t32; rfl).trans (sweep_ry 6 (by norm_num) _ _ _ (second_rotations v w).2.2.2.2.2.2.1 _)

theorem loop33 : seen arg2 (arg2.view.writes (Elt Ideal) G (pb_k0_t33 Variants.none c none arg0 harg0 arg1 harg1 arg2 harg2 (k0_pay53 v) (k0_pay54 w) G all64))
    = ry 7 (lane v) (lane w) (seen arg2 G) :=
  (one_block arg2.view G (k0_pay3 (k0_pay53 v) (k0_pay54 w)) (pb_k0_t33 Variants.none c none arg0 harg0 arg1 harg1 arg2 harg2 (k0_pay53 v) (k0_pay54 w) G) (by decide) (by decide) k0_off36 k0_off36_inb k0_off36_eq rfl
    fun k => by rw [pb_k0_t33_succ]; unfold tripL_k0_t33 trip_k0_t33; rfl).trans (sweep_ry 7 (by norm_num) _ _ _ (second_rotations v w).2.2.2.2.2.2.2.1 _)

theorem loop34 : seen arg2 (arg2.view.writes (Elt Ideal) G (pb_k0_t34 Variants.none c none arg0 harg0 arg1 harg1 arg2 harg2 v w G all64))
    = ry 8 (lane v) (lane w) (seen arg2 G) :=
  (one_block arg2.view G (k0_pay4 v w) (pb_k0_t34 Variants.none c none arg0 harg0 arg1 harg1 arg2 harg2 v w G) (by decide) (by decide) k0_off37 k0_off37_inb k0_off37_eq rfl
    fun k => by rw [pb_k0_t34_succ]; unfold tripL_k0_t34 trip_k0_t34; rfl).trans (sweep_ry 8 (by norm_num) _ _ _ (second_rotations v w).2.2.2.2.2.2.2.2 _)

/-! ## The CNOTs within a block -/

theorem loop14 : seen arg2 (arg2.view.writes (Elt Ideal) G (pb_k0_t14 Variants.none c none arg0 harg0 arg1 harg1 arg2 harg2 k b G all64))
    = cnot 0 1 (seen arg2 G) :=
  (one_block arg2.view G k0_pay28 (pb_k0_t14 Variants.none c none arg0 harg0 arg1 harg1 arg2 harg2 k b G) (by decide) (by decide) k0_off15 k0_off15_inb k0_off15_eq rfl
    fun k => by rw [pb_k0_t14_succ]; unfold tripL_k0_t14 trip_k0_t14; rfl).trans (sweep_cnot 0 1 (by norm_num) (by norm_num) _ flips.1 _)

theorem loop15 : seen arg2 (arg2.view.writes (Elt Ideal) G (pb_k0_t15 Variants.none c none arg0 harg0 arg1 harg1 arg2 harg2 k b G all64))
    = cnot 1 2 (seen arg2 G) :=
  (one_block arg2.view G k0_pay29 (pb_k0_t15 Variants.none c none arg0 harg0 arg1 harg1 arg2 harg2 k b G) (by decide) (by decide) k0_off16 k0_off16_inb k0_off16_eq rfl
    fun k => by rw [pb_k0_t15_succ]; unfold tripL_k0_t15 trip_k0_t15; rfl).trans (sweep_cnot 1 2 (by norm_num) (by norm_num) _ flips.2.1 _)

theorem loop16 : seen arg2 (arg2.view.writes (Elt Ideal) G (pb_k0_t16 Variants.none c none arg0 harg0 arg1 harg1 arg2 harg2 G all64))
    = cnot 2 3 (seen arg2 G) :=
  (one_block arg2.view G k0_pay30 (pb_k0_t16 Variants.none c none arg0 harg0 arg1 harg1 arg2 harg2 G) (by decide) (by decide) k0_off17 k0_off17_inb k0_off17_eq rfl
    fun k => by rw [pb_k0_t16_succ]; unfold tripL_k0_t16 trip_k0_t16; rfl).trans (sweep_cnot 2 3 (by norm_num) (by norm_num) _ flips.2.2.1 _)

theorem loop17 : seen arg2 (arg2.view.writes (Elt Ideal) G (pb_k0_t17 Variants.none c none arg0 harg0 arg1 harg1 arg2 harg2 G all64))
    = cnot 3 4 (seen arg2 G) :=
  (one_block arg2.view G k0_pay31 (pb_k0_t17 Variants.none c none arg0 harg0 arg1 harg1 arg2 harg2 G) (by decide) (by decide) k0_off18 k0_off18_inb k0_off18_eq rfl
    fun k => by rw [pb_k0_t17_succ]; unfold tripL_k0_t17 trip_k0_t17; rfl).trans (sweep_cnot 3 4 (by norm_num) (by norm_num) _ flips.2.2.2.1 _)

theorem loop18 : seen arg2 (arg2.view.writes (Elt Ideal) G (pb_k0_t18 Variants.none c none arg0 harg0 arg1 harg1 arg2 harg2 G all64))
    = cnot 4 5 (seen arg2 G) :=
  (one_block arg2.view G k0_pay32 (pb_k0_t18 Variants.none c none arg0 harg0 arg1 harg1 arg2 harg2 G) (by decide) (by decide) k0_off19 k0_off19_inb k0_off19_eq rfl
    fun k => by rw [pb_k0_t18_succ]; unfold tripL_k0_t18 trip_k0_t18; rfl).trans (sweep_cnot 4 5 (by norm_num) (by norm_num) _ flips.2.2.2.2.1 _)

theorem loop19 : seen arg2 (arg2.view.writes (Elt Ideal) G (pb_k0_t19 Variants.none c none arg0 harg0 arg1 harg1 arg2 harg2 k0_pay33 b G all64))
    = cnot 5 6 (seen arg2 G) :=
  (one_block arg2.view G (k0_pay34 k0_pay33) (pb_k0_t19 Variants.none c none arg0 harg0 arg1 harg1 arg2 harg2 k0_pay33 b G) (by decide) (by decide) k0_off20 k0_off20_inb k0_off20_eq rfl
    fun k => by rw [pb_k0_t19_succ]; unfold tripL_k0_t19 trip_k0_t19; rfl).trans (sweep_cnot 5 6 (by norm_num) (by norm_num) _ flips.2.2.2.2.2.1 _)

theorem loop20 : seen arg2 (arg2.view.writes (Elt Ideal) G (pb_k0_t20 Variants.none c none arg0 harg0 arg1 harg1 arg2 harg2 i b G all64))
    = cnot 6 7 (seen arg2 G) :=
  (one_block arg2.view G k0_pay35 (pb_k0_t20 Variants.none c none arg0 harg0 arg1 harg1 arg2 harg2 i b G) (by decide) (by decide) k0_off21 k0_off21_inb k0_off21_eq rfl
    fun k => by rw [pb_k0_t20_succ]; unfold tripL_k0_t20 trip_k0_t20; rfl).trans (sweep_cnot 6 7 (by norm_num) (by norm_num) _ flips.2.2.2.2.2.2.1 _)

theorem loop21 : seen arg2 (arg2.view.writes (Elt Ideal) G (pb_k0_t21 Variants.none c none arg0 harg0 arg1 harg1 arg2 harg2 i b G all64))
    = cnot 7 8 (seen arg2 G) :=
  (one_block arg2.view G k0_pay36 (pb_k0_t21 Variants.none c none arg0 harg0 arg1 harg1 arg2 harg2 i b G) (by decide) (by decide) k0_off22 k0_off22_inb k0_off22_eq rfl
    fun k => by rw [pb_k0_t21_succ]; unfold tripL_k0_t21 trip_k0_t21; rfl).trans (sweep_cnot 7 8 (by norm_num) (by norm_num) _ flips.2.2.2.2.2.2.2 _)

/-! ## The gates between blocks -/

theorem low13 : ∀ (t : Fin k0_t12_loop.trips) (k : Fin k0_t13_loop.trips), k0_off13 t k = ![512 * lowBlock t.val k.val, 0] := by decide +kernel
theorem high14 : ∀ (t : Fin k0_t12_loop.trips) (k : Fin k0_t13_loop.trips), k0_off14 t k = ![512 * highBlock t.val k.val, 0] := by decide +kernel
theorem low39 : ∀ (t : Fin k0_t35_loop.trips) (k : Fin k0_t36_loop.trips), k0_off39 t k = ![512 * lowBlock t.val k.val, 0] := by decide +kernel
theorem high40 : ∀ (t : Fin k0_t35_loop.trips) (k : Fin k0_t36_loop.trips), k0_off40 t k = ![512 * highBlock t.val k.val, 0] := by decide +kernel
theorem low23 : ∀ (k : Fin k0_t22_loop.trips), k0_off23 k = ![512 * lowBlock 0 k.val, 0] := by decide +kernel
theorem high24 : ∀ (k : Fin k0_t22_loop.trips), k0_off24 k = ![512 * highBlock 0 k.val, 0] := by decide +kernel
theorem low25 : ∀ (t : Fin k0_t23_loop.trips) (k : Fin k0_t24_loop.trips), k0_off25 t k = ![512 * lowSet t.val k.val, 0] := by decide +kernel
theorem high26 : ∀ (t : Fin k0_t23_loop.trips) (k : Fin k0_t24_loop.trips), k0_off26 t k = ![512 * highSet t.val k.val, 0] := by decide +kernel
theorem upper27 : ∀ (k : Fin k0_t25_loop.trips), k0_off27 k = ![512 * (32 + k.val), 0] := by decide +kernel

theorem lt12 (t : Fin k0_t12_loop.trips) : t.val < 6 := Nat.lt_of_lt_of_le t.isLt (by decide)
theorem lt35 (t : Fin k0_t35_loop.trips) : t.val < 6 := Nat.lt_of_lt_of_le t.isLt (by decide)
theorem lt23 (t : Fin k0_t23_loop.trips) : t.val < 5 := Nat.lt_of_lt_of_le t.isLt (by decide)

theorem loop13 (t : Fin k0_t12_loop.trips) : seen arg2 (arg2.view.writes (Elt Ideal) G (pb_k0_t13 Variants.none c none arg0 harg0 arg1 harg1 arg2 harg2 k b t v w G all32))
    = ry (9 + t.val) (lane v) (lane w) (seen arg2 G) :=
  (two_blocks arg2.view G (n := 32) (by decide) (by decide) (lowBlock t.val) (highBlock t.val) (tripOf t.val) (k0_pay26 v w) (k0_pay27 v w)
    (blocks_own t.val (lt12 t)) (blocks_all t.val (lt12 t)) (pb_k0_t13 Variants.none c none arg0 harg0 arg1 harg1 arg2 harg2 k b t v w G) (k0_off13 t) (k0_off14 t)
    (k0_off13_inb t) (k0_off14_inb t) (low13 t) (high14 t) rfl
    fun k => by rw [pb_k0_t13_succ]; unfold tripL_k0_t13 trip_k0_t13; rfl).trans
    (pairs_ry t.val (lt12 t) _ _ _ _ (fun A B r j => (halves v w A B r j).1) (fun A B r j => (halves v w A B r j).2.1) _)

theorem loop36 (t : Fin k0_t35_loop.trips) : seen arg2 (arg2.view.writes (Elt Ideal) G (pb_k0_t36 Variants.none c none arg0 harg0 arg1 harg1 arg2 harg2 t v w G all32))
    = ry (9 + t.val) (lane v) (lane w) (seen arg2 G) :=
  (two_blocks arg2.view G (n := 32) (by decide) (by decide) (lowBlock t.val) (highBlock t.val) (tripOf t.val) (k0_pay9 v w) (k0_pay10 v w)
    (blocks_own t.val (lt35 t)) (blocks_all t.val (lt35 t)) (pb_k0_t36 Variants.none c none arg0 harg0 arg1 harg1 arg2 harg2 t v w G) (k0_off39 t) (k0_off40 t)
    (k0_off39_inb t) (k0_off40_inb t) (low39 t) (high40 t) rfl
    fun k => by rw [pb_k0_t36_succ]; unfold tripL_k0_t36 trip_k0_t36; rfl).trans
    (pairs_ry t.val (lt35 t) _ _ _ _ (fun A B r j => (halves v w A B r j).2.2.1) (fun A B r j => (halves v w A B r j).2.2.2) _)

theorem loop22 : seen arg2 (arg2.view.writes (Elt Ideal) G (pb_k0_t22 Variants.none c none arg0 harg0 arg1 harg1 arg2 harg2 i b G all32))
    = cnot 8 9 (seen arg2 G) :=
  (two_blocks arg2.view G (n := 32) (by decide) (by decide) (lowBlock 0) (highBlock 0) (tripOf 0) k0_pay40 k0_pay41
    (blocks_own 0 (by norm_num)) (blocks_all 0 (by norm_num)) (pb_k0_t22 Variants.none c none arg0 harg0 arg1 harg1 arg2 harg2 i b G) k0_off23 k0_off24
    k0_off23_inb k0_off24_inb low23 high24 rfl
    fun k => by rw [pb_k0_t22_succ]; unfold tripL_k0_t22 trip_k0_t22; rfl).trans
    (pairs_cnot8 _ _ (fun A B r j => (exchange A B r j).1) (fun A B r j => (exchange A B r j).2) _)

theorem loop24 (t : Fin k0_t23_loop.trips) : seen arg2 (arg2.view.writes (Elt Ideal) G (pb_k0_t24 Variants.none c none arg0 harg0 arg1 harg1 arg2 harg2 i b t G all16))
    = cnot (9 + t.val) (9 + t.val + 1) (seen arg2 G) :=
  (two_blocks arg2.view G (n := 16) (by decide) (by decide) (lowSet t.val) (highSet t.val) (tripSet t.val) (fun _ B => k0_pay43 B) (fun A _ => k0_pay42 A)
    (set_own t.val (lt23 t)) (set_all t.val (lt23 t)) (pb_k0_t24 Variants.none c none arg0 harg0 arg1 harg1 arg2 harg2 i b t G) (k0_off25 t) (k0_off26 t)
    (k0_off25_inb t) (k0_off26_inb t) (low25 t) (high26 t) rfl
    fun k => by rw [pb_k0_t24_succ]; unfold tripL_k0_t24 trip_k0_t24; rfl).trans
    (pairs_cnot t.val (lt23 t) _ _ (fun _ B => (moved B).2) (fun A _ => (moved A).1) _)

theorem loop25 : seen arg2 (arg2.view.writes (Elt Ideal) G (pb_k0_t25 Variants.none c none arg0 harg0 arg1 harg1 arg2 harg2 k b b' G all32))
    = cnot 14 0 (seen arg2 G) :=
  funext fun y => (upper_blocks arg2.view G k0_pay44 (pb_k0_t25 Variants.none c none arg0 harg0 arg1 harg1 arg2 harg2 k b b' G) (by decide) (by decide) k0_off27 k0_off27_inb upper27 rfl
    (fun k => by rw [pb_k0_t25_succ]; unfold tripL_k0_t25 trip_k0_t25; rfl) y).trans (upper_cnot (k0_pay44 (F := Ideal)) last_flip (seen arg2 G) y)

/-! ## The squares at the end -/

theorem loop37 : seen arg2 (arg2.view.writes (Elt Ideal) G (pb_k0_t37 Variants.none c none arg0 harg0 arg1 harg1 arg2 harg2 G all64))
    = fun y => seen arg2 G y * seen arg2 G y :=
  (one_block arg2.view G k0_pay11 (pb_k0_t37 Variants.none c none arg0 harg0 arg1 harg1 arg2 harg2 G) (by decide) (by decide) k0_off41 k0_off41_inb k0_off41_eq rfl
    fun k => by rw [pb_k0_t37_succ]; unfold tripL_k0_t37 trip_k0_t37; rfl).trans (by
      funext y
      unfold sweep
      rw [squares]
      dsimp only
      rw [get_own])

end Cert.KernelIdeal.Circuit

end
-- ==== Proof.Ideal.LayerValue.lean ====
/-
  One layer of the circuit's body, and the whole body, as gates.
-/
module

public import proofs.«01_k».proof.Proof.Ideal.LoopGates

@[expose] public section

set_option maxRecDepth 16384

noncomputable section

namespace Cert.KernelIdeal.Circuit

open Cert.KernelIdeal Cert.KernelIdeal.Gen Cert.Rows Cert.Gates
open Idealize.ShloMosaic Idealize.ShloMosaic.TcCoe

/-- Row `g` of an array of 90 rows of cosines or sines. -/
def angleRow (A : (⟨3, ![90, 1, 128]⟩ : Shape).Idx → EReal) (g : ℕ) : Fin 128 → EReal :=
  fun j => A (ix3 (⟨g % 90, Nat.mod_lt _ (by norm_num)⟩ : Fin 90) (0 : Fin 1) j)

/-- A load of one row reads that row. -/
theorem lane_row (M : Memref sig .tc .vmem S90x1x128 .f32) (f : Bf (F := Ideal) M) {off : Fin 3 → ℕ} {g : ℕ}
    (inb : ∀ a, off a + (![1, 1, 128] : Fin 3 → ℕ) a ≤ S90x1x128.size a) (hoff : off = ![g, 0, 0]) :
    lane (M.view.readAt (Elt Ideal) (Rect.unit (s := S90x1x128) off ![1, 1, 128] inb).toLoadRect f)
      = angleRow (M.view.read (Elt Ideal) f) g := by
  subst hoff
  funext j
  have h0 : g + 1 ≤ 90 := inb (0 : Fin 3)
  refine congrArg (M.view.read (Elt Ideal) f) (funext fun a => Fin.ext ?_)
  match a with
  | ⟨0, _⟩ =>
    show g + 1 * 0 = g % 90
    omega
  | ⟨1, _⟩ => rfl
  | ⟨2, _⟩ =>
    show 0 + 1 * j.val = j.val
    omega

variable (c : Dev nD) (arg0 : Memref sig .tc .vmem S90x1x128 .f32) (harg0 : arg0.IsWhole) (arg1 : Memref sig .tc .vmem S90x1x128 .f32)
  (harg1 : arg1.IsWhole) (arg2 : Memref sig .tc .vmem S32768x128 .f32) (harg2 : arg2.IsWhole)
  (f0 : Bf (F := Ideal) arg0) (f1 : Bf (F := Ideal) arg1) (G : Bf (F := Ideal) arg2) (l : Fin k0_t2_loop.trips) (b : BitVec 32)

/-- The cosines and the sines the body finds, row by row. -/
abbrev cosines : ℕ → Fin 128 → EReal := angleRow (arg0.view.read (Elt Ideal) f0)
abbrev sines : ℕ → Fin 128 → EReal := angleRow (arg1.view.read (Elt Ideal) f1)

/-- What holds before the first step and is carried by each holds after any number of them. -/
theorem iterate_all {C : Type} {n : ℕ} (step : Fin n → C → C) (P : ℕ → C → Prop) (x : C) (h0 : P 0 x)
    (hs : ∀ (k : Fin n) (y : C), P k.val y → P (k.val + 1) (step k y)) {N : ℕ} (hN : N = n) : P N (iterate step x N) := by
  subst hN
  have key : ∀ k, k ≤ N → P k (iterate step x k) := by
    intro k
    induction k with
    | zero => intro _; exact h0
    | succ k ih =>
      intro hk
      rw [show iterate step x (k + 1) = step ⟨k, hk⟩ (iterate step x k) from iterate_succ step x ⟨k, hk⟩]
      exact hs ⟨k, hk⟩ _ (ih (by omega))
  exact key N le_rfl

/-- The rotations of qubits 9 to 14, one after another. -/
theorem high_rotations (X : Arr.Idx → EReal)
    (hG : seen arg2 G = rotations (fun q => cosines arg0 f0 (30 * l.val + q)) (fun q => sines arg1 f1 (30 * l.val + q)) X 9)
    {N : ℕ} (hN : N = k0_t12_loop.trips) :
    seen arg2 (iterate (fun t => (trip12 c arg0 harg0 arg1 harg1 arg2 harg2 l b f0 f1 t).1) G N)
      = rotations (fun q => cosines arg0 f0 (30 * l.val + q)) (fun q => sines arg1 f1 (30 * l.val + q)) X (9 + N) := by
  refine iterate_all _ (fun n f => seen arg2 f =
    rotations (fun q => cosines arg0 f0 (30 * l.val + q)) (fun q => sines arg1 f1 (30 * l.val + q)) X (9 + n)) G hG (fun t f hf => ?_) hN
  unfold trip12
  dsimp only
  rw [loop13, hf, lane_row arg0 f0 _ (k0_off12_eq l t), lane_row arg1 f1 _ (k0_off12_eq l t),
    show 30 * l.val + t.val + 9 = 30 * l.val + (9 + t.val) by omega]
  rfl

/-- The second rotations of qubits 9 to 14, one after another. -/
theorem high_rotations' (X : Arr.Idx → EReal)
    (hG : seen arg2 G = rotations (fun q => cosines arg0 f0 (30 * l.val + 15 + q)) (fun q => sines arg1 f1 (30 * l.val + 15 + q)) X 9)
    {N : ℕ} (hN : N = k0_t35_loop.trips) :
    seen arg2 (iterate (fun t => (trip35 c arg0 harg0 arg1 harg1 arg2 harg2 l f0 f1 t).1) G N)
      = rotations (fun q => cosines arg0 f0 (30 * l.val + 15 + q)) (fun q => sines arg1 f1 (30 * l.val + 15 + q)) X (9 + N) := by
  refine iterate_all _ (fun n f => seen arg2 f =
    rotations (fun q => cosines arg0 f0 (30 * l.val + 15 + q)) (fun q => sines arg1 f1 (30 * l.val + 15 + q)) X (9 + n)) G hG (fun t f hf => ?_) hN
  unfold trip35
  dsimp only
  rw [loop36, hf, lane_row arg0 f0 _ (k0_off38_eq l t), lane_row arg1 f1 _ (k0_off38_eq l t),
    show 30 * l.val + t.val + 24 = 30 * l.val + 15 + (9 + t.val) by omega]
  rfl

/-- The CNOTs from qubits 9 to 13, one after another. -/
theorem high_cnots (i : IVec S512x128 1) (X : Arr.Idx → EReal) (hG : seen arg2 G = chain X 9) {N : ℕ} (hN : N = k0_t23_loop.trips) :
    seen arg2 (iterate (fun t => (trip23 (F := Ideal) c arg0 harg0 arg1 harg1 arg2 harg2 i b t).1) G N) = chain X (9 + N) := by
  refine iterate_all _ (fun n f => seen arg2 f = chain X (9 + n)) G hG (fun t f hf => ?_) hN
  unfold trip23
  dsimp only
  rw [loop24, hf]
  rfl

/-- One more rotation, and one more CNOT of the chain. -/
theorem rotations_step {n : ℕ} {co si : ℕ → Fin 128 → EReal} {C S : Fin 128 → EReal} {X A B : Arr.Idx → EReal}
    (h : A = ry n C S B) (hC : C = co n) (hS : S = si n) (hB : B = rotations co si X n) : A = rotations co si X (n + 1) := by
  rw [h, hC, hS, hB]; rfl

theorem chain_step {n : ℕ} {X A B : Arr.Idx → EReal} (h : A = cnot n (n + 1) B) (hB : B = chain X n) : A = chain X (n + 1) := by
  rw [h, hB]; rfl

theorem ring_step {A B Z : Arr.Idx → EReal} (h : A = cnot 14 0 B) (hB : B = Z) : A = cnot 14 0 Z := by
  rw [h, hB]

/-- The rows loaded before the CNOTs and those loaded after. -/
theorem row_first (M : Memref sig .tc .vmem S90x1x128 .f32) (f : Bf (F := Ideal) M) (q : Fin 9)
    (inb : ∀ a, k0_off2 l (BitVec.ofNat 32 q.val) a + (![1, 1, 128] : Fin 3 → ℕ) a ≤ S90x1x128.size a) :
    lane (M.view.readAt (Elt Ideal) (Rect.unit (s := S90x1x128) (k0_off2 l (BitVec.ofNat 32 q.val)) ![1, 1, 128] inb).toLoadRect f)
      = angleRow (M.view.read (Elt Ideal) f) (30 * l.val + q.val) := lane_row M f inb (k0_off2_eq l q)

theorem row_second (M : Memref sig .tc .vmem S90x1x128 .f32) (f : Bf (F := Ideal) M) (q : Fin 9)
    (inb : ∀ a, k0_off28 l (BitVec.ofNat 32 q.val) a + (![1, 1, 128] : Fin 3 → ℕ) a ≤ S90x1x128.size a) :
    lane (M.view.readAt (Elt Ideal) (Rect.unit (s := S90x1x128) (k0_off28 l (BitVec.ofNat 32 q.val)) ![1, 1, 128] inb).toLoadRect f)
      = angleRow (M.view.read (Elt Ideal) f) (30 * l.val + 15 + q.val) := by
  rw [lane_row M f inb (k0_off28_eq l q), Nat.add_right_comm]

/-- One trip over the layers is one layer. -/
theorem layer_read : seen arg2 ((trip2 c arg0 harg0 arg1 harg1 arg2 harg2 f0 f1 l).1 G)
    = layer (cosines arg0 f0) (sines arg1 f1) l.val (seen arg2 G) := by
  unfold trip2
  dsimp only
  simp only [View.writes_append]
  refine (high_rotations' c arg0 harg0 arg1 harg1 arg2 harg2 f0 f1 _ l
    (cnot 14 0 (chain (rotations (fun q => cosines arg0 f0 (30 * l.val + q)) (fun q => sines arg1 f1 (30 * l.val + q)) (seen arg2 G) 15) 14)) ?_ (by decide)).trans rfl
  refine rotations_step (loop34 ..) (row_second l arg0 f0 8 _) (row_second l arg1 f1 8 _) ?_
  refine rotations_step (loop33 ..) (row_second l arg0 f0 7 _) (row_second l arg1 f1 7 _) ?_
  refine rotations_step (loop32 ..) (row_second l arg0 f0 6 _) (row_second l arg1 f1 6 _) ?_
  refine rotations_step (loop31 ..) (row_second l arg0 f0 5 _) (row_second l arg1 f1 5 _) ?_
  refine rotations_step (loop30 ..) (row_second l arg0 f0 4 _) (row_second l arg1 f1 4 _) ?_
  refine rotations_step (loop29 ..) (row_second l arg0 f0 3 _) (row_second l arg1 f1 3 _) ?_
  refine rotations_step (loop28 ..) (row_second l arg0 f0 2 _) (row_second l arg1 f1 2 _) ?_
  refine rotations_step (loop27 ..) (row_second l arg0 f0 1 _) (row_second l arg1 f1 1 _) ?_
  refine rotations_step (loop26 ..) (row_second l arg0 f0 0 _) (row_second l arg1 f1 0 _) ?_
  refine ring_step (loop25 ..) ?_
  refine (high_cnots c arg0 harg0 arg1 harg1 arg2 harg2 _ _ _
    (rotations (fun q => cosines arg0 f0 (30 * l.val + q)) (fun q => sines arg1 f1 (30 * l.val + q)) (seen arg2 G) 15) ?_ (by decide)).trans rfl
  refine chain_step (loop22 ..) ?_
  refine chain_step (loop21 ..) ?_
  refine chain_step (loop20 ..) ?_
  refine chain_step (loop19 ..) ?_
  refine chain_step (loop18 ..) ?_
  refine chain_step (loop17 ..) ?_
  refine chain_step (loop16 ..) ?_
  refine chain_step (loop15 ..) ?_
  refine chain_step (loop14 ..) ?_
  refine (high_rotations c arg0 harg0 arg1 harg1 arg2 harg2 f0 f1 _ l _ (seen arg2 G) ?_ (by decide)).trans rfl
  refine rotations_step (loop11 ..) (row_first l arg0 f0 8 _) (row_first l arg1 f1 8 _) ?_
  refine rotations_step (loop10 ..) (row_first l arg0 f0 7 _) (row_first l arg1 f1 7 _) ?_
  refine rotations_step (loop9 ..) (row_first l arg0 f0 6 _) (row_first l arg1 f1 6 _) ?_
  refine rotations_step (loop8 ..) (row_first l arg0 f0 5 _) (row_first l arg1 f1 5 _) ?_
  refine rotations_step (loop7 ..) (row_first l arg0 f0 4 _) (row_first l arg1 f1 4 _) ?_
  refine rotations_step (loop6 ..) (row_first l arg0 f0 3 _) (row_first l arg1 f1 3 _) ?_
  refine rotations_step (loop5 ..) (row_first l arg0 f0 2 _) (row_first l arg1 f1 2 _) ?_
  refine rotations_step (loop4 ..) (row_first l arg0 f0 1 _) (row_first l arg1 f1 1 _) ?_
  refine rotations_step (loop3 ..) (row_first l arg0 f0 0 _) (row_first l arg1 f1 0 _) ?_
  rfl

end Cert.KernelIdeal.Circuit

end
-- ==== Proof.Ideal.BodyValue.lean ====
/-
  The whole body of the circuit's call: the squares of three layers applied to the start.
-/
module

public import proofs.«01_k».proof.Proof.Ideal.LayerValue
public import proofs.«01_k».proof.Proof.Ideal.Start

@[expose] public section

set_option maxRecDepth 16384

noncomputable section

namespace Cert.KernelIdeal.Circuit

open Cert.KernelIdeal Cert.KernelIdeal.Gen Cert.Rows Cert.Gates
open Idealize.ShloMosaic Idealize.ShloMosaic.TcCoe

variable (c : Dev nD) (arg0 : Memref sig .tc .vmem S90x1x128 .f32) (harg0 : arg0.IsWhole) (arg1 : Memref sig .tc .vmem S90x1x128 .f32)
  (harg1 : arg1.IsWhole) (arg2 : Memref sig .tc .vmem S32768x128 .f32) (harg2 : arg2.IsWhole)
  (f0 : Bf (F := Ideal) arg0) (f1 : Bf (F := Ideal) arg1) (f : Bf (F := Ideal) arg2)

/-- The eight first rows stored over an array of zeros make the start. -/
theorem first_store (v : View sig .tc .vmem Arr .f32) (g : v.ty.Contents (Elt Ideal)) (inb : ∀ a, (![0, 0] : Fin 2 → ℕ) a + (![8, 128] : Fin 2 → ℕ) a ≤ Arr.size a)
    (hg : v.read (Elt Ideal) g = fun _ => (0 : EReal)) :
    v.read (Elt Ideal) (v.writes (Elt Ideal) g [(⟨Rect.unit (s := Arr) ![0, 0] ![8, 128] inb, k0_pay2 (F := Ideal)⟩ : View.Piece (Elt Ideal) Arr .f32)]) = start := by
  funext y
  by_cases h : row y < 8
  · refine (View.read_writes_cons_rows_of_mem v g inb (k0_pay2 (F := Ideal)) [] y (ValueIdx.ix2 (⟨row y, h⟩ : Fin 8) (col y)) (o := 0) rfl
      (Nat.zero_add _).symm rfl).trans ?_
    rw [first_rows]
    rfl
  · refine (View.read_writes_cons_rows_of_not_mem v g inb (k0_pay2 (F := Ideal)) [] y (o := 0) rfl (W := 8) rfl (Or.inr ?_)).trans ?_
    · simp only [row] at h; omega
    · rw [show v.writes (Elt Ideal) g [] = g from rfl, hg]
      unfold start
      rw [if_neg (by omega)]

/-- The body leaves the squares of the state after three layers. -/
theorem body_read : seen arg2 ((body c arg0 harg0 arg1 harg1 arg2 harg2 f0 f1).1 f)
    = fun y => layers (cosines arg0 f0) (sines arg1 f1) 3 y * layers (cosines arg0 f0) (sines arg1 f1) 3 y := by
  unfold body
  dsimp only
  refine (loop37 c arg0 harg0 arg1 harg1 arg2 harg2 _).trans ?_
  refine congrArg (fun (X : Arr.Idx → EReal) y => X y * X y) (a₂ := layers (cosines arg0 f0) (sines arg1 f1) 3) ?_
  refine iterate_all (n := k0_t2_loop.trips) _ (fun n g => seen arg2 g = layers (cosines arg0 f0) (sines arg1 f1) n) _ ?_ (fun l g hg => ?_) (by decide)
  · refine first_store arg2.view _ _ ((clear_read c arg0 harg0 arg1 harg1 arg2 harg2 f).trans ?_)
    rw [zeros]; rfl
  · rw [layer_read, hg]; rfl

end Cert.KernelIdeal.Circuit

end
-- ==== Proof.Ideal.CircuitValue.lean ====
/-
  What the circuit's call leaves: the squares of the state after three layers, over the cosines and sines it is entered with.
-/
module

public import proofs.«01_k».proof.Proof.Ideal.BodyValue
public import proofs.«01_k».proof.Proof.Ideal.CircuitCall
public import Idealize.ShloMosaic.Lib.Pipeline.Value

@[expose] public section

set_option maxRecDepth 16384

noncomputable section

namespace Cert.KernelIdeal.Run

open Cert.KernelIdeal Cert.KernelIdeal.Gen Cert.KernelIdeal.Circuit Cert.Rows Cert.Gates
open Idealize.ShloMosaic Idealize.ShloMosaic.TcCoe
open Idealize.SL Idealize.SL.Sem
open Idealize.ShloMosaic.Pipeline (Dat)

variable (V : Vals (F := Ideal)) (c : Dev nD)

/-- The state before the squares, and the squares. -/
def state : Arr.Idx → EReal := layers (angleRow (V c main_call0_v53)) (angleRow (V c main_call0_v54)) 3
def chances : Arr.Idx → EReal := fun y => state V c y * state V c y

/-- The staged cosines and sines are the arrays themselves. -/
theorem cos_whole : cosBlock V c = V c main_call0_v53 := by
  unfold cosBlock
  funext z
  rw [View.read_apply]
  refine congrArg (V c main_call0_v53) (funext fun a => Fin.ext ?_)
  exact (cfg0.win 0).rect_emb_val_of_index_zero t0_0 a (by fin_cases a <;> rfl) z

theorem sin_whole : sinBlock V c = V c main_call0_v54 := by
  unfold sinBlock
  funext z
  rw [View.read_apply]
  refine congrArg (V c main_call0_v54) (funext fun a => Fin.ext ?_)
  exact (cfg0.win 1).rect_emb_val_of_index_zero t0_0 a (by fin_cases a <;> rfl) z

theorem circuit_read : circuit V c = chances V c := by
  have h := body_read c (stage0_0 0) (hstage0_0 0) (stage0_1 0) (hstage0_1 0) (stage0_2 0) (hstage0_2 0) (cosBlock V c) (sinBlock V c)
    (fun _ => Classical.arbitrary _)
  rw [cos_whole, sin_whole] at h
  unfold circuit chances state
  rw [cos_whole, sin_whole]
  exact h

/-- The call leaves the squares. -/
theorem probs_read : (dat0 V c).arrAt 2 cfg0.N = chances V c := by
  refine (dat0 V c).arrAt_eq_of_cover 2 (chances V c) (fun t ht => ?_) (fun i => ⟨t0_0, by decide, ?_⟩)
  · obtain rfl := fin_N0 t
    refine (show (dat0 V c).flushed 2 t0_0 = circuit V c from rfl).trans ?_
    rw [circuit_read]
    funext z
    rw [View.read_apply]
    refine congrArg (chances V c) (funext fun a => Fin.ext ?_)
    exact ((cfg0.win 2).rect_emb_val_of_index_zero t0_0 a (by fin_cases a <;> rfl) z).symm
  · have : ((cfg0.win 2).blk t0_0).view.emb i = i := funext fun a => Fin.ext
      ((cfg0.win 2).rect_emb_val_of_index_zero t0_0 a (by fin_cases a <;> rfl) i)
    rw [← this]
    exact View.emb_mem_set _ i

end Cert.KernelIdeal.Run

end
-- ==== Proof.Common.Network.lean ====
/-
  The three-layer perceptron on a column of inputs, and a sum over 32768 taken in blocks of 4096.
-/
module

public import proofs.«01_k».proof.Proof.Common.Gates
public import Idealize.ShloMosaic.Lib.Pointwise

@[expose] public section

noncomputable section

namespace Cert.Network

open Cert.Rows
open Idealize.ShloMosaic
open scoped BigOperators

/-- A matrix of `n` rows and `k` columns, and its entries. -/
abbrev Mat (n k : ℕ) : Type := (⟨2, ![n, k]⟩ : Shape).Idx → EReal

variable (W1 : Mat 512 32768) (b1 : Fin 512 → EReal) (W2 : Mat 256 512) (b2 : Fin 256 → EReal) (W3 : Mat 128 256) (b3 : Fin 128 → EReal)
  (P : Arr.Idx → EReal)

/-- One layer's linear part: row `i` of the weights against column `j` of the inputs, plus the bias. -/
def linear {n k : ℕ} (W : Mat n k) (b : Fin n → EReal) (X : Fin k → Fin 128 → EReal) (i : Fin n) (j : Fin 128) : EReal :=
  (∑ a : Fin k, W (ix2 i a) * X a j) + b i

/-- The two hidden layers and the output. -/
def hidden1 : Fin 512 → Fin 128 → EReal := fun i j => max (linear W1 b1 (fun a j => P (ix2 a j)) i j) 0
def hidden2 : Fin 256 → Fin 128 → EReal := fun i j => max (linear W2 b2 (hidden1 W1 b1 P) i j) 0
def output : Fin 128 → Fin 128 → EReal := linear W3 b3 (hidden2 W1 b1 W2 b2 P)

/-- The part of the first product that the first `n` blocks of 4096 inputs make. -/
def partSum (n : ℕ) (i : Fin 512) (j : Fin 128) : EReal :=
  ∑ a ∈ Finset.range (4096 * n), W1 (ix2 i (⟨a % 32768, Nat.mod_lt _ (by norm_num)⟩ : Fin 32768)) * P (ix2 (⟨a % 32768, Nat.mod_lt _ (by norm_num)⟩ : Fin 32768) j)

theorem partSum_zero (i : Fin 512) (j : Fin 128) : partSum W1 P 0 i j = 0 := by
  unfold partSum; rw [Nat.mul_zero, Finset.range_zero, Finset.sum_empty]

/-- One more block. -/
theorem partSum_succ (n : ℕ) (i : Fin 512) (j : Fin 128) : partSum W1 P (n + 1) i j = partSum W1 P n i j
    + ∑ a : Fin 4096, W1 (ix2 i (⟨(4096 * n + a.val) % 32768, Nat.mod_lt _ (by norm_num)⟩ : Fin 32768))
        * P (ix2 (⟨(4096 * n + a.val) % 32768, Nat.mod_lt _ (by norm_num)⟩ : Fin 32768) j) := by
  unfold partSum
  rw [Nat.mul_succ, Finset.sum_range_add, Finset.sum_range (n := 4096)]

/-- All eight blocks. -/
theorem partSum_all (i : Fin 512) (j : Fin 128) : partSum W1 P 8 i j = ∑ a : Fin 32768, W1 (ix2 i a) * P (ix2 a j) := by
  unfold partSum
  rw [show 4096 * 8 = 32768 by norm_num, Finset.sum_range]
  refine Finset.sum_congr rfl fun a _ => ?_
  have e : (⟨a.val % 32768, Nat.mod_lt _ (by norm_num)⟩ : Fin 32768) = a := Fin.ext (Nat.mod_eq_of_lt a.isLt)
  rw [e]

end Cert.Network

end
-- ==== Proof.Ideal.DenseValue.lean ====
/-
  What the perceptron's call leaves: the perceptron of the arrays it is entered with.
-/
module

public import proofs.«01_k».proof.Proof.Common.Network
public import proofs.«01_k».proof.Proof.Ideal.DenseCall
public import Idealize.ShloMosaic.Lib.Pipeline.Value

@[expose] public section

set_option maxRecDepth 16384

noncomputable section

namespace Cert.KernelIdeal.Run

open Cert.KernelIdeal Cert.KernelIdeal.Gen Cert.KernelIdeal.Circuit Cert.KernelIdeal.Dense Cert.Rows Cert.Network
open Idealize.ShloMosaic Idealize.ShloMosaic.TcCoe
open Idealize.SL Idealize.SL.Sem
open Idealize.ShloMosaic.Pipeline (Dat)

/-- The call's three stored values, read at an entry. -/
theorem pay1_entry (i : Fin 512) (j : Fin 128) : k1_pay1 (F := Ideal) (ix2 i j) = (0 : EReal) := by
  pointwise [k1_pay1]

theorem pay2_entry (A : Vec Ideal S512x128 .f32) (W : Vec Ideal S512x4096 .f32) (X : Vec Ideal S4096x128 .f32) (i : Fin 512) (j : Fin 128) :
    k1_pay2 (F := Ideal) A W X (ix2 i j) = A (ix2 i j) + ∑ a : Fin 4096, W (ix2 i a) * X (ix2 a j) := by
  pointwise [k1_pay2]

theorem pay3_entry (A : Vec Ideal S512x128 .f32) (B1 : Vec Ideal S512x1 .f32) (W2 : Vec Ideal S256x512 .f32) (B2 : Vec Ideal S256x1 .f32)
    (W3 : Vec Ideal S128x256 .f32) (B3 : Vec Ideal S128x1 .f32) (i : Fin 128) (j : Fin 128) :
    k1_pay3 (F := Ideal) A B1 W2 B2 W3 B3 (ix2 i j) = linear W3 (fun i => B3 (ix2 i 0)) (fun i j => max (linear W2 (fun i => B2 (ix2 i 0))
      (fun i j => max (A (ix2 i j) + B1 (ix2 i 0)) 0) i j) 0) i j := by
  unfold linear
  pointwise [k1_pay3]

variable (V : Vals (F := Ideal)) (c : Dev nD)

/-- The two inputs that are taken block by block, and the index of a point's block. -/
theorem point_index : ∀ t : Fin grid1.N, win1_0.index t 0 = t.val ∧ win1_0.index t 1 = 0 ∧ win1_1.index t 0 = 0 ∧ win1_1.index t 1 = t.val := by
  decide +kernel

theorem part_inputs (t : Fin cfg1.N) (a : Fin 4096) (j : Fin 128) :
    part V c 0 t (ix2 a j) = V c main_call0_v55 (ix2 (⟨(4096 * t.val + a.val) % 32768, Nat.mod_lt _ (by norm_num)⟩ : Fin 32768) j) := by
  have ht : t.val < 8 := lt_of_lt_of_eq t.isLt (by decide)
  have ha := a.isLt
  obtain ⟨e0, e1, -, -⟩ := point_index t
  unfold part
  rw [View.read_apply]
  refine congrArg (V c main_call0_v55) (funext fun x => Fin.ext ?_)
  refine (win1_0.rect_emb_val t (ix2 a j) x).trans ?_
  match x with
  | ⟨0, _⟩ =>
    show win1_0.index t 0 * 4096 + a.val = (4096 * t.val + a.val) % 32768
    rw [e0]; omega
  | ⟨1, _⟩ =>
    show win1_0.index t 1 * 128 + j.val = j.val
    rw [e1]; omega

theorem part_weights (t : Fin cfg1.N) (i : Fin 512) (a : Fin 4096) :
    part V c 1 t (ix2 i a) = V c main_arg3 (ix2 i (⟨(4096 * t.val + a.val) % 32768, Nat.mod_lt _ (by norm_num)⟩ : Fin 32768)) := by
  have ht : t.val < 8 := lt_of_lt_of_eq t.isLt (by decide)
  have ha := a.isLt
  obtain ⟨-, -, e0, e1⟩ := point_index t
  unfold part
  rw [View.read_apply]
  refine congrArg (V c main_arg3) (funext fun x => Fin.ext ?_)
  refine (win1_1.rect_emb_val t (ix2 i a) x).trans ?_
  match x with
  | ⟨0, _⟩ =>
    show win1_1.index t 0 * 512 + i.val = i.val
    rw [e0]; omega
  | ⟨1, _⟩ =>
    show win1_1.index t 1 * 4096 + a.val = (4096 * t.val + a.val) % 32768
    rw [e1]; omega

/-- The inputs that are taken whole. -/
theorem part_W2 (t : Fin cfg1.N) : part V c 2 t = V c main_arg5 := by
  unfold part; funext z; rw [View.read_apply]
  exact congrArg (V c main_arg5) (funext fun a => Fin.ext ((cfg1.win 2).rect_emb_val_of_index_zero t a (by fin_cases a <;> rfl) z))
theorem part_W3 (t : Fin cfg1.N) : part V c 3 t = V c main_arg7 := by
  unfold part; funext z; rw [View.read_apply]
  exact congrArg (V c main_arg7) (funext fun a => Fin.ext ((cfg1.win 3).rect_emb_val_of_index_zero t a (by fin_cases a <;> rfl) z))
theorem part_b1 (t : Fin cfg1.N) : part V c 4 t = V c main_call0_v56 := by
  unfold part; funext z; rw [View.read_apply]
  exact congrArg (V c main_call0_v56) (funext fun a => Fin.ext ((cfg1.win 4).rect_emb_val_of_index_zero t a (by fin_cases a <;> rfl) z))
theorem part_b2 (t : Fin cfg1.N) : part V c 5 t = V c main_call0_v57 := by
  unfold part; funext z; rw [View.read_apply]
  exact congrArg (V c main_call0_v57) (funext fun a => Fin.ext ((cfg1.win 5).rect_emb_val_of_index_zero t a (by fin_cases a <;> rfl) z))
theorem part_b3 (t : Fin cfg1.N) : part V c 6 t = V c main_call0_v58 := by
  unfold part; funext z; rw [View.read_apply]
  exact congrArg (V c main_call0_v58) (funext fun a => Fin.ext ((cfg1.win 6).rect_emb_val_of_index_zero t a (by fin_cases a <;> rfl) z))

/-- After `n` points the scratch holds the sum over the first `n` blocks. -/
theorem acc_read (n : ℕ) (hn : n ≤ 8) (i : Fin 512) (j : Fin 128) :
    acc V c n (ix2 i j) = partSum (V c main_arg3) (V c main_call0_v55) n i j := by
  induction n with
  | zero => exact (pay1_entry i j).trans (partSum_zero ..).symm
  | succ n ih =>
    have h : n < cfg1.N := lt_of_lt_of_eq hn (by decide)
    refine (congrFun (acc_succ V c ⟨n, h⟩) (ix2 i j)).trans ?_
    refine (pay2_entry _ _ _ i j).trans ?_
    rw [partSum_succ, ← ih (by omega)]
    refine congrArg (acc V c n (ix2 i j) + ·) (Finset.sum_congr rfl fun a _ => ?_)
    rw [part_inputs, part_weights]

/-- The output the call leaves, over the arrays it is entered with. -/
def result (i j : Fin 128) : EReal :=
  output (V c main_arg3) (fun i => V c main_call0_v56 (ix2 i (0 : Fin 1))) (V c main_arg5) (fun i => V c main_call0_v57 (ix2 i (0 : Fin 1)))
    (V c main_arg7) (fun i => V c main_call0_v58 (ix2 i (0 : Fin 1))) (V c main_call0_v55) i j

theorem answer_read (t : Fin cfg1.N) (ht : t.val = 7) (i j : Fin 128) : answer V c t (ix2 i j) = result V c i j := by
  unfold answer
  refine (pay3_entry _ _ _ _ _ _ i j).trans ?_
  rw [part_W2, part_W3, part_b1, part_b2, part_b3]
  unfold result output hidden2 hidden1
  refine congrArg (fun X => linear (V c main_arg7) _ (fun i j => max (linear (V c main_arg5) _ X i j) 0) i j) (funext fun a => funext fun b => ?_)
  rw [acc_read V c (t.val + 1) (by omega), ht, partSum_all]
  rfl

/-- The call leaves the perceptron's output. -/
theorem logits_read (i j : Fin 128) : (dat1 V c).arrAt 7 cfg1.N (ix2 i j) = result V c i j := by
  have hlast : (7 : ℕ) < cfg1.N := by decide
  have whole (t : Fin cfg1.N) (z : ((cfg1.win 7).xblock (cfg1.grid.coords t)).Idx) : ((cfg1.win 7).blk t).view.emb z = z :=
    funext fun a => Fin.ext ((cfg1.win 7).rect_emb_val_of_index_zero t a (by fin_cases a <;> rfl) z)
  refine (congrFun ((dat1 V c).arrAt_eq_of_cover 7 (answer V c ⟨7, hlast⟩) (fun t ht => ?_) (fun i => ⟨⟨7, hlast⟩, (flush1_7 _).mpr rfl, ?_⟩)) (ix2 i j)).trans
    (answer_read V c ⟨7, hlast⟩ rfl i j)
  · have h7 : t = ⟨7, hlast⟩ := Fin.ext (by
      have := (flush1_7 t).mp ht
      have : t.val < 8 := lt_of_lt_of_eq t.isLt (by decide)
      show t.val = 7
      omega)
    subst h7
    refine (show (dat1 V c).flushed 7 ⟨7, hlast⟩ = answer V c ⟨7, hlast⟩ from rfl).trans ?_
    funext z
    rw [View.read_apply]
    exact congrArg (answer V c ⟨7, hlast⟩) (whole _ z).symm
  · rw [← whole ⟨7, hlast⟩ i]
    exact View.emb_mem_set _ i

end Cert.KernelIdeal.Run

end
-- ==== Proof.Common.Angles.lean ====
/-
  The angles of the circuit's rotations, halved: 90 rows, 30 for each layer, the first 15 of them before the CNOTs.
-/
module

public import Idealize.ShloMosaic.Lib.Pointwise

@[expose] public section

noncomputable section

namespace Cert.Angles

open Idealize.ShloMosaic

variable (T P : (⟨2, ![3, 15]⟩ : Shape).Idx → EReal) (X : (⟨2, ![128, 256]⟩ : Shape).Idx → EReal)

/-- The three constants of the program text: a tenth, a half and two, as they are read. -/
def tenth : EReal := Ideal.ofBits .f32 1036831949#32
def half : EReal := Ideal.ofBits .f32 1056964608#32
def two : EReal := Ideal.ofBits .f32 1073741824#32

/-- The angle of one qubit's rotation for one input: its parameter and a tenth of a feature. -/
def angle (W : (⟨2, ![3, 15]⟩ : Shape).Idx → EReal) (o : ℕ) (l : ℕ) (q : Fin 15) (j : Fin 128) : EReal :=
  W (ix2 (⟨l % 3, Nat.mod_lt _ (by norm_num)⟩ : Fin 3) q) + tenth * X (ix2 j (⟨(q.val + o) % 256, Nat.mod_lt _ (by norm_num)⟩ : Fin 256))

/-- The 15 angles of group `k`: the parameters of layer `k / 2`, the first kind before the CNOTs and the second after. -/
def group (k : ℕ) (q : Fin 15) (j : Fin 128) : EReal := if k % 2 = 0 then angle X T 0 (k / 2) q j else angle X P 2 (k / 2) q j

/-- Half the angle in row `g`. -/
def halved (g : ℕ) (j : Fin 128) : EReal := half * group T P X (g / 15) (⟨g % 15, Nat.mod_lt _ (by norm_num)⟩ : Fin 15) j

end Cert.Angles

end
-- ==== Proof.Ideal.HostValue.lean ====
/-
  What the operations around the two calls make: the cosines and sines, the biases as columns, the output turned over.
-/
module

public import proofs.«01_k».proof.Proof.Ideal.CircuitValue
public import proofs.«01_k».proof.Proof.Ideal.DenseValue
public import proofs.«01_k».proof.Proof.Ideal.Run
public import proofs.«01_k».proof.Proof.Common.Angles
public import Idealize.ShloMosaic.Lib.Claim
public import Idealize.ShloMosaic.Lib.StableHlo.RunRead

@[expose] public section

set_option maxRecDepth 16384

noncomputable section

namespace Cert.KernelIdeal.Run

open Cert.KernelIdeal Cert.KernelIdeal.Gen Cert.Rows Cert.Gates Cert.Network Cert.Angles
open Idealize.ShloMosaic Idealize.ShloMosaic.TcCoe
open Idealize.SL Idealize.SL.Sem

variable (m : (ℓ : Loc nD τ sig) → Buf (Elt Ideal) ℓ) (c : Dev nD)

theorem result_turned (b j : Fin 128) : V5 m (outs m) c main_v0 (ix2 b j) = logits m c (ix2 j b) := by
  unfold V5
  entry_read
  refine (show _ = V4 m (outs m) c main_call0_v59 (ix2 j b) from ?_).trans ?_
  · show transpose S128x128 [1, 0] (V4 m (outs m) c (Proc.tc.devRef main_call0_v59)) transposes_S128x128_S128x128_1_0 (ix2 b j) = _
    pointwise []
  · unfold V4
    rw [Function.update_self, outs_logits]

theorem bias1 (i : Fin 512) : V3 m (afterCircuit m) c main_call0_v56 (ix2 i (0 : Fin 1)) = m ((c : Thread nD τ).loc main_arg4) (ix1 i) := by
  unfold V3
  entry_read
  show broadcastInDim S512x1 ![0] bcast_S512_S512x1_0 (V2 m (afterCircuit m) c (Proc.tc.devRef main_arg4)) (ix2 i 0) = _
  rw [V2_of m (afterCircuit m) c main_arg4 (by decide), V1_of m c main_arg4 (by decide)]
  pointwise []

/-- What the host line holds when the six groups of angles are joined. -/
abbrev joined (r : Ref sig .tc) := StableHlo.upto hostOps0 (V0 m c) 55 (Proc.devRef .tc r)

/-- One group of 15 rows of angles: row `l` of the parameters, and a tenth of the inputs from number `o` on. -/
theorem group_entry (W : FVec Ideal S3x15 .f32) (X : FVec Ideal S128x256 .f32) (l o : ℕ) (hl : l < 3) (ho : o < 240)
    (hP : S3x15.Slices ![l, 0] S1x15) (hX : S256x128.Slices ![o, 0] S15x128) (q : Fin 15) (j : Fin 128) :
    addf (broadcastInDim S15x128 ![0, 1] bcast_S15x1_S15x128_0_1 (broadcastInDim S15x1 ![0] bcast_S15_S15x1_0
        (shapeCast S15 (extractStridedSlice S1x15 ![l, 0] W hP) shapeCasts_S1x15_S15)))
      (mulf (broadcastInDim S15x128 ![] bcast_S_S15x128 (constant S_ FTy.f32 1036831949#32))
        (extractStridedSlice S15x128 ![o, 0] (transpose S256x128 [1, 0] X transposes_S128x256_S256x128_1_0) hX)) (ix2 q j)
      = angle X W o l q j := by
  unfold angle tenth
  pointwise []
  have hq := q.isLt
  rw [show (⟨l % 3, Nat.mod_lt _ (by norm_num)⟩ : Fin 3) = ⟨l, hl⟩ from Fin.ext (Nat.mod_eq_of_lt hl),
    show (⟨(q.val + o) % 256, Nat.mod_lt _ (by norm_num)⟩ : Fin 256) = ⟨o + q.val, by omega⟩ from Fin.ext (by show (q.val + o) % 256 = o + q.val; omega)]

set_option maxHeartbeats 2000000 in
/-- The halved angles are the six groups joined and halved. -/
theorem angles_joined : V1 m c main_call0_v52 = mulf (F := Ideal) (broadcastInDim S90x1x128 ![] bcast_S_S90x1x128 (constant S_ FTy.f32 1056964608#32))
    (broadcastInDim S90x1x128 ![0, 2] bcast_S90x128_S90x1x128_0_2 (concatenate S90x128 0
      [⟨S15x128, (joined m c main_call0_v8 : FVec Ideal S15x128 .f32)⟩, ⟨S15x128, (joined m c main_call0_v16 : FVec Ideal S15x128 .f32)⟩,
       ⟨S15x128, (joined m c main_call0_v24 : FVec Ideal S15x128 .f32)⟩, ⟨S15x128, (joined m c main_call0_v32 : FVec Ideal S15x128 .f32)⟩,
       ⟨S15x128, (joined m c main_call0_v40 : FVec Ideal S15x128 .f32)⟩, ⟨S15x128, (joined m c main_call0_v48 : FVec Ideal S15x128 .f32)⟩]
       concatenates_S15x128_S15x128_S15x128_S15x128_S15x128_S15x128_S90x128_d0)) := by
  unfold V1
  after_reads_simp
  rfl

/-- Six groups joined and halved, read at an entry. -/
theorem joined_entry (A0 A1 A2 A3 A4 A5 : FVec Ideal S15x128 .f32) (R : ℕ → Fin 15 → Fin 128 → EReal)
    (h0 : ∀ q j, A0 (ix2 q j) = R 0 q j) (h1 : ∀ q j, A1 (ix2 q j) = R 1 q j) (h2 : ∀ q j, A2 (ix2 q j) = R 2 q j)
    (h3 : ∀ q j, A3 (ix2 q j) = R 3 q j) (h4 : ∀ q j, A4 (ix2 q j) = R 4 q j) (h5 : ∀ q j, A5 (ix2 q j) = R 5 q j) (g : Fin 90) (j : Fin 128) :
    mulf (F := Ideal) (broadcastInDim S90x1x128 ![] bcast_S_S90x1x128 (constant S_ FTy.f32 1056964608#32))
      (broadcastInDim S90x1x128 ![0, 2] bcast_S90x128_S90x1x128_0_2 (concatenate S90x128 0
        [⟨S15x128, A0⟩, ⟨S15x128, A1⟩, ⟨S15x128, A2⟩, ⟨S15x128, A3⟩, ⟨S15x128, A4⟩, ⟨S15x128, A5⟩]
         concatenates_S15x128_S15x128_S15x128_S15x128_S15x128_S15x128_S90x128_d0)) (ix3 g 0 j)
      = half * R (g.val / 15) (⟨g.val % 15, Nat.mod_lt _ (by norm_num)⟩ : Fin 15) j := by
  have hg := g.isLt
  have key (k : ℕ) (a : Fin 15) (e : g.val = 15 * k + a.val) : R k a j = R (g.val / 15) (⟨g.val % 15, Nat.mod_lt _ (by norm_num)⟩ : Fin 15) j := by
    have ha := a.isLt
    rw [show g.val / 15 = k by omega, show (⟨g.val % 15, Nat.mod_lt _ (by norm_num)⟩ : Fin 15) = a from Fin.ext (by show g.val % 15 = a.val; omega)]
  unfold half
  pointwise []
  refine congrArg (Ideal.ofBits FTy.f32 1056964608#32 * ·) ?_
  repeat' split
  all_goals first
    | exact (h0 _ _).trans (key 0 _ (by first | omega | (dsimp only; omega)))
    | exact (h1 _ _).trans (key 1 _ (by first | omega | (dsimp only; omega)))
    | exact (h2 _ _).trans (key 2 _ (by first | omega | (dsimp only; omega)))
    | exact (h3 _ _).trans (key 3 _ (by first | omega | (dsimp only; omega)))
    | exact (h4 _ _).trans (key 4 _ (by first | omega | (dsimp only; omega)))
    | exact (h5 _ _).trans (key 5 _ (by first | omega | (dsimp only; omega)))

/-- The parameters and the features, as launched. -/
abbrev thetas : (⟨2, ![3, 15]⟩ : Shape).Idx → EReal := m ((c : Thread nD τ).loc main_arg1)
abbrev phis : (⟨2, ![3, 15]⟩ : Shape).Idx → EReal := m ((c : Thread nD τ).loc main_arg2)
abbrev features : (⟨2, ![128, 256]⟩ : Shape).Idx → EReal := m ((c : Thread nD τ).loc main_arg0)

set_option maxHeartbeats 2000000 in
/-- The six groups. -/
theorem groups_read (q : Fin 15) (j : Fin 128) :
    joined m c main_call0_v8 (ix2 q j) = group (thetas m c) (phis m c) (features m c) 0 q j
    ∧ joined m c main_call0_v16 (ix2 q j) = group (thetas m c) (phis m c) (features m c) 1 q j
    ∧ joined m c main_call0_v24 (ix2 q j) = group (thetas m c) (phis m c) (features m c) 2 q j
    ∧ joined m c main_call0_v32 (ix2 q j) = group (thetas m c) (phis m c) (features m c) 3 q j
    ∧ joined m c main_call0_v40 (ix2 q j) = group (thetas m c) (phis m c) (features m c) 4 q j
    ∧ joined m c main_call0_v48 (ix2 q j) = group (thetas m c) (phis m c) (features m c) 5 q j := by
  refine ⟨?_, ?_, ?_, ?_, ?_, ?_⟩ <;> after_reads_simp <;> simp only [StableHlo.TRef.ofBuf_toBuf]
  · exact group_entry (thetas m c) (features m c) 0 0 (by norm_num) (by norm_num) slices_S3x15_S1x15_0_0 slices_S256x128_S15x128_0_0 q j
  · exact group_entry (phis m c) (features m c) 0 2 (by norm_num) (by norm_num) slices_S3x15_S1x15_0_0 slices_S256x128_S15x128_2_0 q j
  · exact group_entry (thetas m c) (features m c) 1 0 (by norm_num) (by norm_num) slices_S3x15_S1x15_1_0 slices_S256x128_S15x128_0_0 q j
  · exact group_entry (phis m c) (features m c) 1 2 (by norm_num) (by norm_num) slices_S3x15_S1x15_1_0 slices_S256x128_S15x128_2_0 q j
  · exact group_entry (thetas m c) (features m c) 2 0 (by norm_num) (by norm_num) slices_S3x15_S1x15_2_0 slices_S256x128_S15x128_0_0 q j
  · exact group_entry (phis m c) (features m c) 2 2 (by norm_num) (by norm_num) slices_S3x15_S1x15_2_0 slices_S256x128_S15x128_2_0 q j

end Cert.KernelIdeal.Run

end
-- ==== Proof.Ideal.KernelValue.lean ====
/-
  The kernel program's result over its arguments.
-/
module

public import proofs.«01_k».proof.Proof.Ideal.HostValue

@[expose] public section

set_option maxRecDepth 16384

noncomputable section

namespace Cert.KernelIdeal.Run

open Cert.KernelIdeal Cert.KernelIdeal.Gen Cert.KernelIdeal.Circuit Cert.Rows Cert.Gates Cert.Network Cert.Angles
open Idealize.ShloMosaic Idealize.ShloMosaic.TcCoe
open Idealize.SL Idealize.SL.Sem

variable (m : (ℓ : Loc nD τ sig) → Buf (Elt Ideal) ℓ) (c : Dev nD)

/-- The halved angles, read at an entry. -/
theorem angles_read (g : Fin 90) (j : Fin 128) :
    V1 m c main_call0_v52 (ix3 g (0 : Fin 1) j) = halved (thetas m c) (phis m c) (features m c) g.val j :=
  (congrFun (angles_joined m c) (ix3 g (0 : Fin 1) j)).trans (joined_entry _ _ _ _ _ _ (group (thetas m c) (phis m c) (features m c))
    (fun q j => (groups_read m c q j).1) (fun q j => (groups_read m c q j).2.1) (fun q j => (groups_read m c q j).2.2.1)
    (fun q j => (groups_read m c q j).2.2.2.1) (fun q j => (groups_read m c q j).2.2.2.2.1) (fun q j => (groups_read m c q j).2.2.2.2.2) g j)

set_option maxHeartbeats 2000000 in
/-- The cosines are those of the halved angles. -/
theorem cosine_of : V1 m c main_call0_v53 = Host.cos (F := Ideal) (s := S90x1x128) (φ := .f32) (V1 m c main_call0_v52) := by
  unfold V1
  after_reads_simp
  simp only [StableHlo.TRef.ofBuf_toBuf]
  rfl

set_option maxHeartbeats 2000000 in
/-- The sines are those of the halved angles. -/
theorem sine_of : V1 m c main_call0_v54 = Host.sin (F := Ideal) (s := S90x1x128) (φ := .f32) (V1 m c main_call0_v52) := by
  unfold V1
  after_reads_simp
  simp only [StableHlo.TRef.ofBuf_toBuf]
  rfl

/-- The cosine and the sine the circuit's gate of row `g` uses for column `j`. -/
abbrev co (g : Nat) (j : Fin 128) : EReal := Ideal.cos (halved (thetas m c) (phis m c) (features m c) g j)

@[inherit_doc co]
abbrev si (g : Nat) (j : Fin 128) : EReal := Ideal.sin (halved (thetas m c) (phis m c) (features m c) g j)

/-- A row of an array's cosines or sines, entry by entry. -/
theorem row_cosine (A : FVec Ideal S90x1x128 .f32) (g : ℕ) (j : Fin 128) :
    angleRow (Host.cos A) g j = Ideal.cos (A (ix3 (⟨g % 90, Nat.mod_lt _ (by norm_num)⟩ : Fin 90) (0 : Fin 1) j)) := rfl
theorem row_sine (A : FVec Ideal S90x1x128 .f32) (g : ℕ) (j : Fin 128) :
    angleRow (Host.sin A) g j = Ideal.sin (A (ix3 (⟨g % 90, Nat.mod_lt _ (by norm_num)⟩ : Fin 90) (0 : Fin 1) j)) := rfl

/-- The rows of the cosines and of the sines. -/
theorem cosine_rows : angleRow (V1 m c main_call0_v53) = fun g => co m c (g % 90) := by
  funext g j
  refine (congrArg (fun A => angleRow A g j) (cosine_of m c)).trans ((row_cosine _ g j).trans ?_)
  rw [angles_read m c ⟨g % 90, Nat.mod_lt _ (by norm_num)⟩ j]

theorem sine_rows : angleRow (V1 m c main_call0_v54) = fun g => si m c (g % 90) := by
  funext g j
  refine (congrArg (fun A => angleRow A g j) (sine_of m c)).trans ((row_sine _ g j).trans ?_)
  rw [angles_read m c ⟨g % 90, Nat.mod_lt _ (by norm_num)⟩ j]

/-- The state the circuit ends in. -/
def final : Arr.Idx → EReal := layers (fun g => co m c (g % 90)) (fun g => si m c (g % 90)) 3

theorem probs_final : probs m c = fun y => final m c y * final m c y := by
  refine (probs_read (atCircuit m) c).trans ?_
  unfold chances state
  rw [show atCircuit m c main_call0_v53 = V1 m c main_call0_v53 from rfl, show atCircuit m c main_call0_v54 = V1 m c main_call0_v54 from rfl,
    cosine_rows, sine_rows]
  rfl

/-! ## What the network's call finds -/

theorem bias2 (i : Fin 256) : V3 m (afterCircuit m) c main_call0_v57 (ix2 i (0 : Fin 1)) = m ((c : Thread nD τ).loc main_arg6) (ix1 i) := by
  unfold V3
  entry_read
  show broadcastInDim S256x1 ![0] bcast_S256_S256x1_0 (V2 m (afterCircuit m) c (Proc.tc.devRef main_arg6)) (ix2 i 0) = _
  rw [V2_of m (afterCircuit m) c main_arg6 (by decide), V1_of m c main_arg6 (by decide)]
  pointwise []

theorem bias3 (i : Fin 128) : V3 m (afterCircuit m) c main_call0_v58 (ix2 i (0 : Fin 1)) = m ((c : Thread nD τ).loc main_arg8) (ix1 i) := by
  unfold V3
  entry_read
  show broadcastInDim S128x1 ![0] bcast_S128_S128x1_0 (V2 m (afterCircuit m) c (Proc.tc.devRef main_arg8)) (ix2 i 0) = _
  rw [V2_of m (afterCircuit m) c main_arg8 (by decide), V1_of m c main_arg8 (by decide)]
  pointwise []

/-- A buffer neither the host lines nor the circuit's call writes. -/
theorem argument_kept (r : Ref sig .tc) (h1 : r ∉ hostOps0_W) (h2 : r ∉ ([main_call0_v55] : List (Ref sig .tc))) (h3 : r ∉ hostOps1_W) :
    atDense m c r = m ((c : Thread nD τ).loc r) := by
  refine (V3_of m (afterCircuit m) c r h3).trans ?_
  exact (V2_of m (afterCircuit m) c r h2).trans (V1_of m c r h1)

theorem chances_kept : atDense m c main_call0_v55 = probs m c := by
  refine (V3_of m (afterCircuit m) c main_call0_v55 (by decide)).trans ?_
  unfold V2 afterCircuit
  rw [Function.update_self, Function.update_self]

/-- The program's result: the network on the squares of the circuit's final state, one input per row. -/
theorem kernel_value (b j : Fin 128) : V5 m (outs m) c main_v0 (ix2 b j)
    = output (m ((c : Thread nD τ).loc main_arg3)) (fun i => m ((c : Thread nD τ).loc main_arg4) (ix1 i))
        (m ((c : Thread nD τ).loc main_arg5)) (fun i => m ((c : Thread nD τ).loc main_arg6) (ix1 i))
        (m ((c : Thread nD τ).loc main_arg7)) (fun i => m ((c : Thread nD τ).loc main_arg8) (ix1 i))
        (fun y => final m c y * final m c y) j b := by
  refine (result_turned m c b j).trans ((logits_read (atDense m) c j b).trans ?_)
  unfold result
  have e1 : (fun i => atDense m c main_call0_v56 (ix2 i (0 : Fin 1))) = fun i => m ((c : Thread nD τ).loc main_arg4) (ix1 i) := funext (bias1 m c)
  have e2 : (fun i => atDense m c main_call0_v57 (ix2 i (0 : Fin 1))) = fun i => m ((c : Thread nD τ).loc main_arg6) (ix1 i) := funext (bias2 m c)
  have e3 : (fun i => atDense m c main_call0_v58 (ix2 i (0 : Fin 1))) = fun i => m ((c : Thread nD τ).loc main_arg8) (ix1 i) := funext (bias3 m c)
  rw [e1, e2, e3, argument_kept m c main_arg3 (by decide) (by decide) (by decide), argument_kept m c main_arg5 (by decide) (by decide) (by decide),
    argument_kept m c main_arg7 (by decide) (by decide) (by decide), chances_kept, probs_final]

end Cert.KernelIdeal.Run

end
-- ==== Proof.Reference.GateList.lean ====
/-
  The circuit as one list of 135 gates, 45 for each layer, and its equality with the circuit taken layer by layer.
-/
module

public import proofs.«01_k».proof.Proof.Common.Gates
public import Mathlib.Data.Nat.Bitwise

@[expose] public section

noncomputable section

namespace Cert.Gates

open Idealize.ShloMosaic Idealize.ShloMosaic.ValueIdx Cert.Rows

variable (co si : ℕ → Fin 128 → EReal)

/-- Whether gate `k` is a CNOT, the qubit it rotates or is controlled by, its target, and the row of its angle. -/
def isCnot (k : ℕ) : Prop := 15 ≤ k % 45 ∧ k % 45 < 30
instance (k : ℕ) : Decidable (isCnot k) := inferInstanceAs (Decidable (_ ∧ _))
def qubit (k : ℕ) : ℕ := k % 45 % 15
def target (k : ℕ) : ℕ := if isCnot k then (k % 45 - 14) % 15 else k % 45 % 15
def angleOf (k : ℕ) : ℕ := 30 * (k / 45) + if k % 45 < 15 then k % 45 else k % 45 - 15

/-- Gate `k` on a state. -/
def gate (k : ℕ) (X : Arr.Idx → EReal) : Arr.Idx → EReal :=
  if isCnot k then cnot (qubit k) (target k) X else ry (qubit k) (co (angleOf k)) (si (angleOf k)) X

/-- The first `k` gates, from the start. -/
def gates : ℕ → Arr.Idx → EReal
  | 0 => start
  | k + 1 => gate co si k (gates k)

variable (l : ℕ)

theorem gate_first (q : ℕ) (hq : q < 15) (X : Arr.Idx → EReal) :
    gate co si (45 * l + q) X = ry q (co (30 * l + q)) (si (30 * l + q)) X := by
  have e : (45 * l + q) % 45 = q := by omega
  have d : (45 * l + q) / 45 = l := by omega
  unfold gate
  rw [if_neg (by unfold isCnot; rw [e]; omega)]
  have a : angleOf (45 * l + q) = 30 * l + q := by unfold angleOf; rw [e, d, if_pos hq]
  have b : qubit (45 * l + q) = q := by unfold qubit; rw [e]; omega
  rw [a, b]

theorem gate_middle (i : ℕ) (hi : i < 15) (X : Arr.Idx → EReal) :
    gate co si (45 * l + 15 + i) X = cnot i ((i + 1) % 15) X := by
  have e : (45 * l + 15 + i) % 45 = 15 + i := by omega
  have c : isCnot (45 * l + 15 + i) := by unfold isCnot; rw [e]; omega
  unfold gate
  rw [if_pos c]
  have a : target (45 * l + 15 + i) = (i + 1) % 15 := by unfold target; rw [if_pos c, e]; congr 1; omega
  have b : qubit (45 * l + 15 + i) = i := by unfold qubit; rw [e]; omega
  rw [a, b]

theorem gate_last (q : ℕ) (hq : q < 15) (X : Arr.Idx → EReal) :
    gate co si (45 * l + 30 + q) X = ry q (co (30 * l + 15 + q)) (si (30 * l + 15 + q)) X := by
  have e : (45 * l + 30 + q) % 45 = 30 + q := by omega
  have d : (45 * l + 30 + q) / 45 = l := by omega
  unfold gate
  rw [if_neg (by unfold isCnot; rw [e]; omega)]
  have a : angleOf (45 * l + 30 + q) = 30 * l + 15 + q := by unfold angleOf; rw [e, d, if_neg (by omega)]; omega
  have b : qubit (45 * l + 30 + q) = q := by unfold qubit; rw [e]; omega
  rw [a, b]

theorem gates_first : ∀ q, q ≤ 15 → gates co si (45 * l + q)
    = rotations (fun q => co (30 * l + q)) (fun q => si (30 * l + q)) (gates co si (45 * l)) q
  | 0, _ => rfl
  | q + 1, h => by
    show gate co si (45 * l + q) (gates co si (45 * l + q)) = _
    rw [gate_first co si l q (by omega), gates_first q (by omega)]
    rfl

theorem gates_middle : ∀ i, i ≤ 14 → gates co si (45 * l + 15 + i) = chain (gates co si (45 * l + 15)) i
  | 0, _ => rfl
  | i + 1, h => by
    show gate co si (45 * l + 15 + i) (gates co si (45 * l + 15 + i)) = _
    rw [gate_middle co si l i (by omega), gates_middle i (by omega), Nat.mod_eq_of_lt (by omega : i + 1 < 15)]
    rfl

theorem gates_ring : gates co si (45 * l + 30) = cnot 14 0 (chain (gates co si (45 * l + 15)) 14) := by
  show gate co si (45 * l + 15 + 14) (gates co si (45 * l + 15 + 14)) = _
  rw [gate_middle co si l 14 (by omega), gates_middle co si l 14 (by omega)]

theorem gates_last : ∀ q, q ≤ 15 → gates co si (45 * l + 30 + q)
    = rotations (fun q => co (30 * l + 15 + q)) (fun q => si (30 * l + 15 + q)) (gates co si (45 * l + 30)) q
  | 0, _ => rfl
  | q + 1, h => by
    show gate co si (45 * l + 30 + q) (gates co si (45 * l + 30 + q)) = _
    rw [gate_last co si l q (by omega), gates_last q (by omega)]
    rfl

/-- The first 45 `n` gates are the first `n` layers. -/
theorem gates_layers : ∀ n, gates co si (45 * n) = layers co si n
  | 0 => rfl
  | n + 1 => by
    rw [show 45 * (n + 1) = 45 * n + 30 + 15 by omega, gates_last co si n 15 (by omega), gates_ring, gates_first co si n 15 (by omega), gates_layers n]
    rfl

/-! ## Turning a bit over by an exclusive or -/

theorem xor_one (x : ℕ) : x ^^^ 1 = if x % 2 = 0 then x + 1 else x - 1 := by
  have h1 : (x ^^^ 1) / 2 = x / 2 := by
    rw [show 2 = 2 ^ 1 by norm_num, Nat.xor_div_two_pow]; norm_num
  have h2 : (x ^^^ 1) % 2 = (x + 1) % 2 := Nat.xor_mod_two_eq
  split <;> omega

/-- The exclusive or with the word that has bit `q` alone turns bit `q` over. -/
theorem xor_turn (q r : ℕ) : r ^^^ 2 ^ q = turn q r := by
  have hp := Nat.two_pow_pos q
  have hd := Nat.div_add_mod r (2 ^ q)
  have hd' := Nat.div_add_mod (r ^^^ 2 ^ q) (2 ^ q)
  rw [Nat.xor_div_two_pow, Nat.xor_mod_two_pow, Nat.div_self hp, Nat.mod_self, Nat.xor_zero, xor_one] at hd'
  unfold turn
  by_cases h : r / 2 ^ q % 2 = 0
  · rw [if_pos h] at hd' ⊢
    rw [Nat.mul_add] at hd'
    omega
  · rw [if_neg h] at hd' ⊢
    obtain ⟨z, hz⟩ : ∃ z, r / 2 ^ q = z + 1 := Nat.exists_eq_succ_of_ne_zero fun e => h (by rw [e])
    rw [hz, Nat.mul_add] at hd
    rw [hz, Nat.add_sub_cancel] at hd'
    generalize r % 2 ^ q = w at hd hd'
    generalize 2 ^ q * z = v at hd hd'
    omega

/-- A basis state with a bit turned over is again one of the 32768. -/
theorem turn_lt (q r : ℕ) (hq : q < 15) (hr : r < 32768) : turn q r < 32768 := by
  rw [← xor_turn]
  exact Nat.xor_lt_two_pow (n := 15) hr (Nat.pow_lt_pow_right (by norm_num) hq)

end Cert.Gates

end
-- ==== Proof.Reference.Words.lean ====
/-
  The words the reference computes positions with, and the two constants that halve an angle.
-/
module

public import proofs.«01_k».proof.Proof.Reference.GateList
public import proofs.«01_k».proof.Proof.Common.Angles
public import Idealize.ShloMosaic.Lib.IdealHost

@[expose] public section

noncomputable section

namespace Cert.Words

open Idealize.ShloMosaic Cert.Gates Cert.Angles

theorem small_nat (n : ℕ) (h : n < 32768) : (BitVec.ofNat 32 n).toNat = n := by
  rw [BitVec.toNat_ofNat, Nat.mod_eq_of_lt (by omega)]

/-- Bit `q` of a word. -/
theorem bit_word (u : ArithUnit) (r q : ℕ) (hr : r < 32768) (hq : q < 15) :
    IntOp.andi (IntOp.shrsi u (BitVec.ofNat 32 r) (BitVec.ofNat 32 q)) 1#32 = BitVec.ofNat 32 (r / 2 ^ q % 2) := by
  have er := small_nat r hr
  have eq := small_nat q (by omega)
  unfold IntOp.shrsi IntOp.andi
  rw [if_pos (by rw [eq]; omega)]
  apply BitVec.eq_of_toNat_eq
  rw [BitVec.toNat_and, BitVec.sshiftRight', eq, BitVec.sshiftRight_eq_of_msb_false (by rw [BitVec.msb_eq_false_iff_two_mul_lt, er]; omega),
    BitVec.toNat_ushiftRight, er, Nat.shiftRight_eq_div_pow]
  exact (Nat.and_one_is_mod _).trans (small_nat _ (lt_of_lt_of_le (Nat.mod_lt _ two_pos) (by norm_num))).symm

/-- A word moved up `q` bits. -/
theorem shift_word (u : ArithUnit) (b q : ℕ) (hb : b < 2) (hq : q < 15) :
    IntOp.shli u (BitVec.ofNat 32 b) (BitVec.ofNat 32 q) = BitVec.ofNat 32 (b * 2 ^ q) := by
  have eb := small_nat b (by omega)
  have eq := small_nat q (by omega)
  have hp : 2 ^ q ≤ 2 ^ 14 := Nat.pow_le_pow_right (by norm_num) (by omega)
  have hbp : b * 2 ^ q < 2 ^ 32 := by
    calc b * 2 ^ q ≤ 1 * 2 ^ 14 := Nat.mul_le_mul (by omega) hp
      _ < 2 ^ 32 := by norm_num
  unfold IntOp.shli
  rw [if_pos (by rw [eq]; omega)]
  apply BitVec.eq_of_toNat_eq
  rw [BitVec.shiftLeft_eq', BitVec.toNat_shiftLeft, eq, eb, Nat.shiftLeft_eq, BitVec.toNat_ofNat]

/-- The exclusive or of two words. -/
theorem xor_word (a b : ℕ) (ha : a < 32768) (hb : b < 32768) :
    IntOp.xori (BitVec.ofNat 32 a) (BitVec.ofNat 32 b) = BitVec.ofNat 32 (a ^^^ b) := by
  unfold IntOp.xori
  apply BitVec.eq_of_toNat_eq
  have h : a ^^^ b < 32768 := Nat.xor_lt_two_pow (n := 15) ha hb
  rw [BitVec.toNat_xor, small_nat a ha, small_nat b hb, small_nat _ h]

/-- The index a rotation takes its second entry from. -/
theorem turn_word (u : ArithUnit) (r q : ℕ) (hr : r < 32768) (hq : q < 15) :
    IntOp.xori (BitVec.ofNat 32 r) (IntOp.shli u 1#32 (BitVec.ofNat 32 q)) = BitVec.ofNat 32 (turn q r) := by
  have hp : 2 ^ q ≤ 2 ^ 14 := Nat.pow_le_pow_right (by norm_num) (by omega)
  rw [show (1#32 : BitVec 32) = BitVec.ofNat 32 1 from rfl, shift_word u 1 q (by omega) hq, Nat.one_mul,
    xor_word r _ hr (by norm_num at hp; omega), xor_turn]

/-- The index a CNOT takes its entry from. -/
theorem flip_word (u u' : ArithUnit) (r q t : ℕ) (hr : r < 32768) (hq : q < 15) (ht : t < 15) :
    IntOp.xori (BitVec.ofNat 32 r) (IntOp.shli u (IntOp.andi (IntOp.shrsi u' (BitVec.ofNat 32 r) (BitVec.ofNat 32 q)) 1#32) (BitVec.ofNat 32 t))
      = BitVec.ofNat 32 (if r / 2 ^ q % 2 = 0 then r else turn t r) := by
  have hp : 2 ^ t ≤ 2 ^ 14 := Nat.pow_le_pow_right (by norm_num) (by omega)
  rw [bit_word u' r q hr hq, shift_word u _ t (by omega) ht]
  rcases Nat.mod_two_eq_zero_or_one (r / 2 ^ q) with h | h
  · rw [h, if_pos rfl, Nat.zero_mul, xor_word r 0 hr (by omega), Nat.xor_zero]
  · rw [h, if_neg (by norm_num), Nat.one_mul, xor_word r _ hr (by norm_num at hp; omega), xor_turn]

/-- Dividing by two is multiplying by a half. -/
theorem two_value : two = ((2 : ℝ) : EReal) := by
  unfold two
  simp [Ideal.ofBits, Ideal.ieee, -EReal.coe_mul]
  norm_num

theorem half_value : half = ((1 / 2 : ℝ) : EReal) := by
  unfold half
  simp [Ideal.ofBits, Ideal.ieee, -EReal.coe_mul]
  norm_num

theorem div_two (x : EReal) : Ideal.div x two = half * x := by
  unfold Ideal.div
  have h0 : two ≠ 0 := by rw [two_value]; exact_mod_cast (two_ne_zero : (2 : ℝ) ≠ 0)
  rw [if_neg h0, mul_comm, two_value, half_value, ← EReal.coe_inv]
  norm_num

end Cert.Words

end
-- ==== Proof.Reference.StepValue.lean ====
/-
  One trip of the reference's loop, read entry by entry: it applies one gate of the list.
-/
module

public import proofs.«01_k».proof.Proof.Gen.ReferenceIdeal.Run
public import proofs.«01_k».proof.Proof.Reference.Words

@[expose] public section

set_option maxRecDepth 16384

noncomputable section

namespace Cert.ReferenceIdeal.Circuit

open Cert.ReferenceIdeal Cert.ReferenceIdeal.Gen Cert.ReferenceIdeal.Value Cert.Rows Cert.Gates Cert.Angles
open Idealize.ShloMosaic Idealize.ShloMosaic.TcCoe

/-- The list of gates in the program text. -/
theorem list_cnot : ∀ k : Fin 135, lit0 k = if isCnot k.val then 1#1 else 0#1 := by decide +kernel
theorem list_qubit : ∀ k : Fin 135, lit1 k = BitVec.ofNat 32 (qubit k.val) := by decide +kernel
theorem list_target_rows : ∀ (a : Fin 9) (b : Fin 15), lit2 ⟨15 * a.val + b.val, by omega⟩ = BitVec.ofNat 32 (target (15 * a.val + b.val)) := by
  decide +kernel
theorem list_target (k : Fin 135) : lit2 k = BitVec.ofNat 32 (target k.val) := by
  have h := list_target_rows ⟨k.val / 15, by omega⟩ ⟨k.val % 15, by omega⟩
  have e : 15 * (k.val / 15) + k.val % 15 = k.val := Nat.div_add_mod _ _
  simp only [e] at h
  exact h

/-- A one-entry list as a scalar. -/
theorem shapeCast_one {α : Type} (x : S1.Idx → α) (z : S_.Idx) : shapeCast S_ x shapeCasts_S1_S_ z = x (ix1 (0 : Fin 1)) := by
  have only : ∀ i : S1.Idx, i = ix1 (0 : Fin 1) := fun i => funext fun a =>
    match a with
    | ⟨0, _⟩ => Subsingleton.elim (α := Fin 1) _ _
  exact congrArg x (only _)

/-- Entry `k` of a list, at the position the counter names. -/
theorem list_entry {α : Type} (x : S135.Idx → α) (w : IVec S_ 32) (k : Fin 135) (hw : ∀ z, w z = BitVec.ofNat 32 k.val)
    (h : S135.Slices (fun _ => 0) S1) :
    shapeCast S_ (Host.dynamicSlice S1 x (fun a => ((![w] : Fin 1 → IVec S_ 32) a (Shape.Idx.first h_S_)).toInt) h) shapeCasts_S1_S_
      = fun _ => x (ix1 k) := by
  funext z
  have hk := k.isLt
  have e : (BitVec.ofNat 32 k.val).toInt = (k.val : Int) := by
    rw [BitVec.toInt_eq_toNat_of_lt] <;> rw [BitVec.toNat_ofNat, Nat.mod_eq_of_lt] <;> omega
  have e0 := Host.clampedStart_of_le (t := S1) h.1 (fun a => ((![w] : Fin 1 → IVec S_ 32) a (Shape.Idx.first h_S_)).toInt) (0 : Fin 1) k.val
    (by show (w _).toInt = _; rw [hw, e]) (by show k.val + 1 ≤ 135; omega)
  rw [shapeCast_one, Host.dynamicSlice_apply]
  refine congrArg x (funext fun a => Fin.ext ?_)
  match a with
  | ⟨0, _⟩ => exact e0

/-- Row `k` of the angles, at the position the counter names. -/
theorem row_entry (x : FVec Ideal S135x128 .f32) (w : IVec S_ 32) (k : Fin 135) (hw : ∀ z, w z = BitVec.ofNat 32 k.val)
    (h : S135x128.Slices (fun _ => 0) S1x128) (b : Fin 128) :
    shapeCast S128 (Host.dynamicSlice S1x128 x (fun a => ((![w, constantI S_ 32 0#32] : Fin 2 → IVec S_ 32) a (Shape.Idx.first h_S_)).toInt) h)
        shapeCasts_S1x128_S128 (ix1 b) = x (ix2 k b) := by
  have hk := k.isLt
  have e : (BitVec.ofNat 32 k.val).toInt = (k.val : Int) := by
    rw [BitVec.toInt_eq_toNat_of_lt] <;> rw [BitVec.toNat_ofNat, Nat.mod_eq_of_lt] <;> omega
  pointwise []
  have e0 := Host.clampedStart_of_le (t := S1x128) h.1 (fun a => ((![w, constantI S_ 32 0#32] : Fin 2 → IVec S_ 32) a (Shape.Idx.first h_S_)).toInt)
    (0 : Fin 2) k.val (by show (w _).toInt = _; rw [hw, e]) (by show k.val + 1 ≤ 135; omega)
  have e1 := Host.clampedStart_of_le (t := S1x128) h.1 (fun a => ((![w, constantI S_ 32 0#32] : Fin 2 → IVec S_ 32) a (Shape.Idx.first h_S_)).toInt)
    (1 : Fin 2) 0 rfl (by show 0 + 128 ≤ 128; omega)
  refine congrArg x (congrArg₂ ix2 (Fin.ext e0) (Fin.ext ?_))
  show _ + b.val = b.val
  rw [e1, Nat.zero_add]

/-- How the program takes columns of the state. -/
abbrev columns := gather_S128x32768_S32768x1_S128x32768_0_1_n_n_1_1_1281

/-- A column taken at the index a word names. -/
theorem take_column (x : FVec Ideal S128x32768 .f32) (idx : IVec S32768x1 32) (b : Fin 128) (i n : Fin 32768)
    (h : idx (ix2 i (0 : Fin 1)) = BitVec.ofNat 32 n.val) :
    Host.gather columns x idx (ix2 b i) = x (ix2 b n) := by
  have hn := n.isLt
  have e : (BitVec.ofNat 32 n.val).toInt = (n.val : Int) := by
    rw [BitVec.toInt_eq_toNat_of_lt] <;> rw [BitVec.toNat_ofNat, Nat.mod_eq_of_lt] <;> omega
  unfold Host.gather
  refine congrArg x (funext fun a => Fin.ext ?_)
  match a with
  | ⟨0, _⟩ =>
    show columns.start (ix2 b i) idx (0 : Fin 2) + columns.batchCoord (ix2 b i) (0 : Fin 2) + columns.offCoord (ix2 b i) (0 : Fin 2) = b.val
    rw [GatherDims.batchCoord_eq_zero _ _ _ List.not_mem_nil]
    unfold GatherDims.start GatherDims.offCoord
    rw [dif_neg (show (0 : Fin 2) ∉ columns.startIndexMap from by decide),
      dif_pos (show (0 : Fin 2) ∈ columns.sKept from (GatherDims.mem_sKept _ _).mpr ⟨by decide, List.not_mem_nil⟩), Nat.zero_add]
    rfl
  | ⟨1, _⟩ =>
    show columns.start (ix2 b i) idx (1 : Fin 2) + columns.batchCoord (ix2 b i) (1 : Fin 2) + columns.offCoord (ix2 b i) (1 : Fin 2) = n.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ columns.startIndexMap from List.mem_singleton.mpr rfl)]
    have hsi : columns.siIdx (ix2 b i) ⟨List.idxOf (1 : Fin 2) columns.startIndexMap, List.idxOf_lt_length_iff.2 (List.mem_singleton.mpr rfl)⟩
        = ix2 i (0 : Fin 1) := by
      funext z
      refine Fin.ext ?_
      match z with
      | ⟨0, _⟩ => rfl
      | ⟨1, _⟩ => rfl
    rw [hsi, h, e]
    show min ((n.val : Int)).toNat 32767 + 0 + 0 = n.val
    omega

variable (C : IVec S_ 1) (Q T : IVec S_ 32) (A : FVec Ideal S128 .f32) (S : FVec Ideal S128x32768 .f32)

/-- Which basis state each entry of the state is taken from, by a CNOT and by a rotation. -/
def flipped : IVec S32768 32 :=
  xori (iotaInDim S32768 32 0) (Host.shli (andi (Host.shrsi (iotaInDim S32768 32 0) (broadcastInDim S32768 ![] bcast_S_S32768 Q))
    (broadcastInDim S32768 ![] bcast_S_S32768 (constantI S_ 32 1#32))) (broadcastInDim S32768 ![] bcast_S_S32768 T))
def turned : IVec S32768 32 :=
  xori (iotaInDim S32768 32 0) (broadcastInDim S32768 ![] bcast_S_S32768 (Host.shli (constantI S_ 32 1#32) Q))

/-- The entries so taken. -/
def taken (I : IVec S32768 32) : FVec Ideal S128x32768 .f32 :=
  Host.gather columns S (broadcastInDim S32768x1 ![0] bcast_S32768_S32768x1_0 I)

/-- Half of each angle, and its cosine and sine spread over the state. -/
def halves : FVec Ideal S128 .f32 := Host.divf A (broadcastInDim S128 ![] bcast_S_S128 (constant S_ .f32 0x40000000#32))
def spread (c : FVec Ideal S128x1 .f32) : FVec Ideal S128x32768 .f32 := broadcastInDim S128x32768 ![0, 1] bcast_S128x1_S128x32768_0_1 c

/-- One trip: whether it is a CNOT, the qubit, the target, the angles and the state. -/
def trip : FVec Ideal S128x32768 .f32 :=
  select (broadcastInDim S128x32768 ![] bcast_S_S128x32768 C) (taken S (flipped Q T))
    (select (broadcastInDim S128x32768 ![1] bcast_S32768_S128x32768_1
        (cmpi .eq (andi (Host.shrsi (iotaInDim S32768 32 0) (broadcastInDim S32768 ![] bcast_S_S32768 Q))
          (broadcastInDim S32768 ![] bcast_S_S32768 (constantI S_ 32 1#32))) (broadcastInDim S32768 ![] bcast_S_S32768 (constantI S_ 32 0#32))))
      (addf (mulf (spread (broadcastInDim S128x1 ![0] bcast_S128_S128x1_0 (Host.cos (halves A)))) S)
        (mulf (spread (Host.negf (broadcastInDim S128x1 ![0] bcast_S128_S128x1_0 (Host.sin (halves A))))) (taken S (turned Q))))
      (addf (mulf (spread (broadcastInDim S128x1 ![0] bcast_S128_S128x1_0 (Host.sin (halves A)))) (taken S (turned Q)))
        (mulf (spread (broadcastInDim S128x1 ![0] bcast_S128_S128x1_0 (Host.cos (halves A)))) S)))

theorem trip_congr {C C' : IVec S_ 1} {Q Q' T T' : IVec S_ 32} (hC : C = C') (hQ : Q = Q') (hT : T = T') : trip C Q T A S = trip C' Q' T' A S := by
  subst hC hQ hT; rfl

/-- One trip of the program's loop, from the contents it finds. -/
theorem step_trip (V : Valuation τ sig (Elt Ideal)) (k : Fin 135)
    (hk : ∀ z, (V (Proc.devRef .tc main_v26_4) : IVec S_ 32) z = BitVec.ofNat 32 k.val) :
    step_main_v26_5 V = trip (fun _ => V (Proc.devRef .tc main_v26_0) (ix1 k)) (fun _ => V (Proc.devRef .tc main_v26_1) (ix1 k))
      (fun _ => V (Proc.devRef .tc main_v26_2) (ix1 k)) (res_main_while0b_v48 V) (V (Proc.devRef .tc main_v26_5)) :=
  (show step_main_v26_5 V = trip _ _ _ (res_main_while0b_v48 V) (V (Proc.devRef .tc main_v26_5)) from rfl).trans
    (trip_congr _ _ (list_entry (V (Proc.devRef .tc main_v26_0)) (V (Proc.devRef .tc main_v26_4)) k hk sliceFits_S135_S1)
      (list_entry (V (Proc.devRef .tc main_v26_1)) (V (Proc.devRef .tc main_v26_4)) k hk sliceFits_S135_S1)
      (list_entry (V (Proc.devRef .tc main_v26_2)) (V (Proc.devRef .tc main_v26_4)) k hk sliceFits_S135_S1))

/-- The trip's result at an entry, over what it takes. -/
theorem trip_entry (b : Fin 128) (i : Fin 32768) : trip C Q T A S (ix2 b i) =
    Scalar.select (C ix0) (taken S (flipped Q T) (ix2 b i)) (Scalar.select
      (IntOp.cmpi .eq (IntOp.andi (IntOp.shrsi .host (BitVec.ofNat 32 i.val) (Q ix0)) 1#32) 0#32)
      (Ideal.cos (Ideal.div (A (ix1 b)) two) * S (ix2 b i) + -Ideal.sin (Ideal.div (A (ix1 b)) two) * taken S (turned Q) (ix2 b i))
      (Ideal.sin (Ideal.div (A (ix1 b)) two) * taken S (turned Q) (ix2 b i) + Ideal.cos (Ideal.div (A (ix1 b)) two) * S (ix2 b i))) := by
  unfold trip spread halves
  generalize taken S (flipped Q T) = G
  generalize taken S (turned Q) = G'
  pointwise []
  rfl

/-- An entry taken at the index a word names. -/
theorem taken_entry (I : IVec S32768 32) (b : Fin 128) (i n : Fin 32768) (h : I (ix1 i) = BitVec.ofNat 32 n.val) :
    taken S I (ix2 b i) = S (ix2 b n) := by
  unfold taken
  refine take_column S _ b i n (Eq.trans ?_ h)
  pointwise []

/-- Where the entries are taken from. -/
theorem flipped_entry (i : Fin 32768) : flipped Q T (ix1 i)
    = IntOp.xori (BitVec.ofNat 32 i.val) (IntOp.shli .host (IntOp.andi (IntOp.shrsi .host (BitVec.ofNat 32 i.val) (Q ix0)) 1#32) (T ix0)) := by
  unfold flipped
  pointwise []
theorem turned_entry (i : Fin 32768) : turned Q (ix1 i) = IntOp.xori (BitVec.ofNat 32 i.val) (IntOp.shli .host 1#32 (Q ix0)) := by
  unfold turned
  pointwise []

/-- A state with its two axes exchanged. -/
def across : Arr.Idx → EReal := fun y => S (ix2 (col y) (⟨row y, row_lt y⟩ : Fin 32768))

/-- A gate with cosines and sines of half the given angles. -/
def gateOf (A : Fin 128 → EReal) (k : ℕ) (X : Arr.Idx → EReal) : Arr.Idx → EReal :=
  gate (fun _ j => Ideal.cos (half * A j)) (fun _ j => Ideal.sin (half * A j)) k X

/-- One trip applies one gate. -/
theorem trip_gate (k : Fin 135) (hC : ∀ z, C z = lit0 k) (hQ : ∀ z, Q z = lit1 k) (hT : ∀ z, T z = lit2 k) :
    across (trip C Q T A S) = gateOf (fun j => A (ix1 j)) k.val (across S) := by
  have hq : qubit k.val < 15 := by unfold qubit; omega
  have ht : target k.val < 15 := by unfold target; split <;> omega
  funext y
  have hr := row_lt y
  have other : ∀ n (h : n < 32768), across S (at2 n (col y)) = S (ix2 (col y) (⟨n, h⟩ : Fin 32768)) := fun n h =>
    congrArg (fun a => S (ix2 (col y) a)) (Fin.ext (Nat.mod_eq_of_lt h))
  refine (trip_entry C Q T A S (col y) ⟨row y, hr⟩).trans ?_
  rw [taken_entry S (turned Q) (col y) ⟨row y, hr⟩ ⟨turn (qubit k.val) (row y), turn_lt _ _ hq hr⟩
    (by rw [turned_entry, hQ, list_qubit]; exact Words.turn_word _ _ _ hr hq)]
  have flip : taken S (flipped Q T) (ix2 (col y) (⟨row y, hr⟩ : Fin 32768)) = if row y / 2 ^ qubit k.val % 2 = 0
      then S (ix2 (col y) (⟨row y, hr⟩ : Fin 32768)) else S (ix2 (col y) (⟨turn (target k.val) (row y), turn_lt _ _ ht hr⟩ : Fin 32768)) := by
    have hw : flipped Q T (ix1 (⟨row y, hr⟩ : Fin 32768)) =
        BitVec.ofNat 32 (if row y / 2 ^ qubit k.val % 2 = 0 then row y else turn (target k.val) (row y)) := by
      rw [flipped_entry, hQ, hT, list_qubit, list_target]; exact Words.flip_word .host .host _ _ _ hr hq ht
    by_cases h : row y / 2 ^ qubit k.val % 2 = 0
    · rw [if_pos h] at hw ⊢
      exact taken_entry S _ _ _ ⟨row y, hr⟩ hw
    · rw [if_neg h] at hw ⊢
      exact taken_entry S _ _ _ ⟨turn (target k.val) (row y), turn_lt _ _ ht hr⟩ hw
  rw [flip]
  rw [hC, hQ, list_cnot, list_qubit, Words.bit_word _ _ _ hr hq, Words.div_two]
  unfold gateOf gate
  by_cases hc : isCnot k.val
  · rw [if_pos hc, if_pos hc]
    unfold cnot
    rw [other _ (turn_lt _ _ ht hr)]
    rfl
  · rw [if_neg hc, if_neg hc]
    unfold ry
    rw [other _ (turn_lt _ _ hq hr)]
    rcases Nat.mod_two_eq_zero_or_one (row y / 2 ^ qubit k.val) with h | h
    · rw [h, if_pos rfl]
      show Ideal.cos (half * A (ix1 (col y))) * S (ix2 (col y) ⟨row y, hr⟩) + -Ideal.sin (half * A (ix1 (col y))) * _ = _
      rw [EReal.neg_mul, ← sub_eq_add_neg]
      rfl
    · rw [h, if_neg one_ne_zero]
      rfl

end Cert.ReferenceIdeal.Circuit

end
-- ==== Proof.Reference.EntryValue.lean ====
/-
  What the reference's loop is entered with: the three lists of the gates, the angles and the state before the first gate.
-/
module

public import proofs.«01_k».proof.Proof.Reference.StepValue
public import Idealize.ShloMosaic.Lib.StableHlo.RunRead

@[expose] public section

set_option maxRecDepth 16384

noncomputable section

namespace Cert.ReferenceIdeal.Circuit

open Cert.ReferenceIdeal Cert.ReferenceIdeal.Gen Cert.ReferenceIdeal.Value Cert.Rows Cert.Gates Cert.Angles
open Idealize.ShloMosaic Idealize.ShloMosaic.TcCoe
open Idealize.SL Idealize.SL.Sem
open Idealize.ShloMosaic.StableHlo

/-- One kind of angles: the parameters and a tenth of the features from column `o` on. -/
def kind (o : ℕ) (h : S128x256.Slices ![0, o] S128x15) (W : FVec Ideal S3x15 .f32) (X : FVec Ideal S128x256 .f32) : FVec Ideal S3x15x128 .f32 :=
  addf (broadcastInDim S3x15x128 ![0, 1, 2] bcast_S3x15x1_S3x15x128_0_1_2 (broadcastInDim S3x15x1 ![0, 1] bcast_S3x15_S3x15x1_0_1 W))
    (broadcastInDim S3x15x128 ![0, 1, 2] bcast_S1x15x128_S3x15x128_0_1_2
      (mulf (broadcastInDim S1x15x128 ![1, 2] bcast_S15x128_S1x15x128_1_2
          (transpose S15x128 [1, 0] (extractStridedSlice S128x15 ![0, o] X h) transposes_S128x15_S15x128_1_0))
        (broadcastInDim S1x15x128 ![] bcast_S_S1x15x128 (constant S_ .f32 0x3DCCCCCD#32))))

theorem kind_entry (o : ℕ) (ho : o ≤ 2) (h : S128x256.Slices ![0, o] S128x15) (W : FVec Ideal S3x15 .f32) (X : FVec Ideal S128x256 .f32)
    (l : Fin 3) (q : Fin 15) (b : Fin 128) : kind o h W X (ix3 l q b) = angle X W o l.val q b := by
  have hl := l.isLt
  have hq := q.isLt
  have el : (⟨l.val % 3, Nat.mod_lt _ (by norm_num)⟩ : Fin 3) = l := Fin.ext (Nat.mod_eq_of_lt hl)
  have eq : ∀ hh, (⟨o + q.val, hh⟩ : Fin 256) = (⟨(q.val + o) % 256, Nat.mod_lt _ (by norm_num)⟩ : Fin 256) := fun hh => Fin.ext (by
    show o + q.val = (q.val + o) % 256; omega)
  unfold kind angle tenth
  rw [el]
  pointwise []
  exact (congrArg (fun a => W (ix2 l q) + X (ix2 b a) * Ideal.ofBits FTy.f32 1036831949#32) (eq _)).trans
    (congrArg (W (ix2 l q) + ·) (mul_comm _ _))

/-- The rows of the angles, 45 for each layer. -/
def rows (A B C : FVec Ideal S3x15x128 .f32) : FVec Ideal S135x128 .f32 :=
  shapeCast S135x128 (concatenate S3x45x128 1 [⟨S3x15x128, A⟩, ⟨S3x15x128, B⟩, ⟨S3x15x128, C⟩]
    concatenates_S3x15x128_S3x15x128_S3x15x128_S3x45x128_d1) shapeCasts_S3x45x128_S135x128

theorem rows_entry (A B C : FVec Ideal S3x15x128 .f32) (k : Fin 135) (b : Fin 128) :
    rows A B C (ix2 k b) = if h : k.val % 45 < 15 then A (ix3 (⟨k.val / 45, by omega⟩ : Fin 3) (⟨k.val % 45, h⟩ : Fin 15) b)
      else if h' : k.val % 45 - 15 < 15 then B (ix3 (⟨k.val / 45, by omega⟩ : Fin 3) (⟨k.val % 45 - 15, by omega⟩ : Fin 15) b)
      else C (ix3 (⟨k.val / 45, by omega⟩ : Fin 3) (⟨k.val % 45 - 15 - 15, by omega⟩ : Fin 15) b) := by
  have hk := k.isLt
  unfold rows
  pointwise []

/-- The state before the first gate. -/
def begin : FVec Ideal S128x32768 .f32 :=
  broadcastInDim S128x32768 ![1] bcast_S32768_S128x32768_1 (select (cmpi .eq (iotaInDim S32768 32 0) (broadcastInDim S32768 ![] bcast_S_S32768 (constantI S_ 32 0#32)))
    (broadcastInDim S32768 ![] bcast_S_S32768 (constant S_ .f32 0x3F800000#32)) (broadcastInDim S32768 ![] bcast_S_S32768 (constant S_ .f32 0x00000000#32)))

theorem begin_across : across begin = start := by
  funext y
  have hr := row_lt y
  unfold across start begin
  pointwise []
  by_cases h : row y = 0
  · rw [h, if_pos rfl]; rfl
  · have e : BitVec.ofNat 32 (row y) ≠ 0#32 := fun e => h (by
      have := congrArg BitVec.toNat e
      rw [BitVec.toNat_ofNat, Nat.mod_eq_of_lt (by omega)] at this
      exact this)
    rw [if_neg h]
    show (if (BitVec.ofBool (BitVec.ofNat 32 (row y) == 0#32)) = 1#1 then (1 : EReal) else 0) = 0
    rw [beq_eq_false_iff_ne.mpr e]
    rfl

variable (m : (ℓ : Loc nD τ sig) → Buf (Elt Ideal) ℓ) (c : Dev nD)

/-- The parameters and the features, as launched. -/
abbrev thetas : (⟨2, ![3, 15]⟩ : Shape).Idx → EReal := m ((c : Thread nD τ).loc main_arg1)
abbrev phis : (⟨2, ![3, 15]⟩ : Shape).Idx → EReal := m ((c : Thread nD τ).loc main_arg2)
abbrev features : (⟨2, ![128, 256]⟩ : Shape).Idx → EReal := m ((c : Thread nD τ).loc main_arg0)

/-- The contents the loop is entered with. -/
abbrev before : Valuation τ sig (Elt Ideal) := entryContents preI m c

theorem before_cnot : (before m c (Proc.devRef .tc main_v26_0) : IVec S135 1) = fun i => lit0 (S135.rowMajor i) := by
  simp only [before, entryContents, afterL_cons, afterL_nil]
  after_reads_simp
  rfl

theorem before_qubit : (before m c (Proc.devRef .tc main_v26_1) : IVec S135 32) = fun i => lit1 (S135.rowMajor i) := by
  simp only [before, entryContents, afterL_cons, afterL_nil]
  after_reads_simp
  rfl

theorem before_target : (before m c (Proc.devRef .tc main_v26_2) : IVec S135 32) = fun i => lit2 (S135.rowMajor i) := by
  simp only [before, entryContents, afterL_cons, afterL_nil]
  after_reads_simp
  rfl

set_option maxHeartbeats 2000000 in
theorem before_angles : before m c (Proc.devRef .tc main_v26_3)
    = rows (kind 0 slices_S128x256_S128x15_0_0 (thetas m c) (features m c))
        (broadcastInDim S3x15x128 ![] bcast_S_S3x15x128 (constant S_ .f32 0x00000000#32))
        (kind 2 slices_S128x256_S128x15_0_2 (phis m c) (features m c)) := by
  simp only [before, entryContents, afterL_cons, afterL_nil]
  after_reads_simp
  rfl

set_option maxHeartbeats 2000000 in
theorem before_state : before m c (Proc.devRef .tc main_v26_5) = begin := by
  simp only [before, entryContents, afterL_cons, afterL_nil]
  after_reads_simp
  simp only [StableHlo.TRef.ofBuf_toBuf]
  rfl

end Cert.ReferenceIdeal.Circuit

end
-- ==== Proof.Reference.CircuitValue.lean ====
/-
  The state the reference's loop leaves: the three layers of the circuit.
-/
module

public import proofs.«01_k».proof.Proof.Reference.EntryValue

@[expose] public section

set_option maxRecDepth 16384

noncomputable section

namespace Cert.ReferenceIdeal.Circuit

open Cert.ReferenceIdeal Cert.ReferenceIdeal.Gen Cert.ReferenceIdeal.Value Cert.Rows Cert.Gates Cert.Angles
open Idealize.ShloMosaic Idealize.ShloMosaic.TcCoe
open Idealize.SL Idealize.SL.Sem

/-- The row of a rotation's angles is the rotation's group and qubit. -/
theorem row_angles (T P : FVec Ideal S3x15 .f32) (B : FVec Ideal S3x15x128 .f32) (X : FVec Ideal S128x256 .f32) (k : Fin 135) (hc : ¬ isCnot k.val) (j : Fin 128) :
    rows (kind 0 slices_S128x256_S128x15_0_0 T X) B (kind 2 slices_S128x256_S128x15_0_2 P X) (ix2 k j)
      = group T P X (angleOf k.val / 15) (⟨angleOf k.val % 15, Nat.mod_lt _ (by norm_num)⟩ : Fin 15) j := by
  have hk := k.isLt
  unfold isCnot at hc
  rw [rows_entry]
  unfold group
  by_cases h : k.val % 45 < 15
  · have ea : angleOf k.val = 30 * (k.val / 45) + k.val % 45 := by unfold angleOf; rw [if_pos h]
    rw [dif_pos h, kind_entry _ (by norm_num), if_pos (by omega)]
    rw [show angleOf k.val / 15 / 2 = k.val / 45 by omega]
    exact congrArg (fun q => angle X T 0 (k.val / 45) q j) (Fin.ext (by show k.val % 45 = angleOf k.val % 15; omega))
  · have ea : angleOf k.val = 30 * (k.val / 45) + (k.val % 45 - 15) := by unfold angleOf; rw [if_neg h]
    rw [dif_neg h, dif_neg (by omega), kind_entry _ (by norm_num), if_neg (by omega)]
    rw [show angleOf k.val / 15 / 2 = k.val / 45 by omega]
    exact congrArg (fun q => angle X P 2 (k.val / 45) q j) (Fin.ext (by show k.val % 45 - 15 - 15 = angleOf k.val % 15; omega))

variable (m : (ℓ : Loc nD τ sig) → Buf (Elt Ideal) ℓ) (c : Dev nD)

/-- The cosines and sines of the halved angles, by row. -/
def co (g : ℕ) (j : Fin 128) : EReal := Ideal.cos (halved (thetas m c) (phis m c) (features m c) (g % 90) j)
def si (g : ℕ) (j : Fin 128) : EReal := Ideal.sin (halved (thetas m c) (phis m c) (features m c) (g % 90) j)

/-- The gate of a row of angles is the circuit's gate. -/
theorem gate_angles (A : Fin 128 → EReal) (k : Fin 135) (hA : ¬ isCnot k.val → ∀ j, A j = group (thetas m c) (phis m c) (features m c) (angleOf k.val / 15)
      (⟨angleOf k.val % 15, Nat.mod_lt _ (by norm_num)⟩ : Fin 15) j) (X : Arr.Idx → EReal) :
    gateOf A k.val X = gate (co m c) (si m c) k.val X := by
  have hk := k.isLt
  unfold gateOf gate
  by_cases h : isCnot k.val
  · rw [if_pos h, if_pos h]
  · have lt : angleOf k.val % 90 = angleOf k.val := by unfold angleOf; split <;> omega
    have e : ∀ j, half * A j = halved (thetas m c) (phis m c) (features m c) (angleOf k.val % 90) j := fun j => by
      rw [lt, hA h]; rfl
    rw [if_neg h, if_neg h]
    exact congrArg₂ (fun a b => ry (qubit k.val) a b X) (funext fun j => congrArg Ideal.cos (e j)) (funext fun j => congrArg Ideal.sin (e j))

/-- The contents before trip `k`. -/
abbrev trips (k : ℕ) : Valuation τ sig (Elt Ideal) := STEP^[k] (before m c)

theorem trips_succ (k : ℕ) : trips m c (k + 1) = STEP (trips m c k) := Function.iterate_succ_apply' STEP k (before m c)

/-- What no trip changes. -/
theorem trips_cnot : ∀ k, trips m c k (Proc.devRef .tc main_v26_0) = before m c (Proc.devRef .tc main_v26_0)
  | 0 => rfl
  | k + 1 => by rw [trips_succ, STEP_main_v26_0]; exact trips_cnot k
theorem trips_qubit : ∀ k, trips m c k (Proc.devRef .tc main_v26_1) = before m c (Proc.devRef .tc main_v26_1)
  | 0 => rfl
  | k + 1 => by rw [trips_succ, STEP_main_v26_1]; exact trips_qubit k
theorem trips_target : ∀ k, trips m c k (Proc.devRef .tc main_v26_2) = before m c (Proc.devRef .tc main_v26_2)
  | 0 => rfl
  | k + 1 => by rw [trips_succ, STEP_main_v26_2]; exact trips_target k
theorem trips_angles : ∀ k, trips m c k (Proc.devRef .tc main_v26_3) = before m c (Proc.devRef .tc main_v26_3)
  | 0 => rfl
  | k + 1 => by rw [trips_succ, STEP_main_v26_3]; exact trips_angles k

/-- The counter. -/
theorem trips_count : ∀ k, (trips m c k (Proc.devRef .tc main_v26_4) : IVec S_ 32) = fun _ => BitVec.ofNat 32 k
  | 0 => ctr_entry m c
  | k + 1 => by
    rw [trips_succ, STEP_main_v26_4]
    have e : ∀ v : IVec S_ 32, (v = fun _ => BitVec.ofNat 32 k) → (id (addi v (constantI S_ 32 1#32)) : IVec S_ 32) = fun _ => BitVec.ofNat 32 (k + 1) := by
      intro v hv; subst hv; funext z
      show BitVec.ofNat 32 k + 1#32 = _
      exact (BitVec.ofNat_add k 1).symm
    exact e _ (trips_count k)

/-- The lists at an entry, as every trip finds them. -/
theorem position (k : Fin 135) : S135.rowMajor (ix1 k) = k := Fin.ext (rowMajor_val1 _)
theorem found_cnot (n : ℕ) (k : Fin 135) : (trips m c n (Proc.devRef .tc main_v26_0) : IVec S135 1) (ix1 k) = lit0 k :=
  (congrFun ((trips_cnot m c n).trans (before_cnot m c)) (ix1 k)).trans (congrArg lit0 (position k))
theorem found_qubit (n : ℕ) (k : Fin 135) : (trips m c n (Proc.devRef .tc main_v26_1) : IVec S135 32) (ix1 k) = lit1 k :=
  (congrFun ((trips_qubit m c n).trans (before_qubit m c)) (ix1 k)).trans (congrArg lit1 (position k))
theorem found_target (n : ℕ) (k : Fin 135) : (trips m c n (Proc.devRef .tc main_v26_2) : IVec S135 32) (ix1 k) = lit2 k :=
  (congrFun ((trips_target m c n).trans (before_target m c)) (ix1 k)).trans (congrArg lit2 (position k))

/-- The row of angles trip `k` takes. -/
theorem found_angles (k : Fin 135) (hc : ¬ isCnot k.val) (j : Fin 128) :
    (res_main_while0b_v48 (trips m c k.val) : FVec Ideal S128 .f32) (ix1 j)
      = group (thetas m c) (phis m c) (features m c) (angleOf k.val / 15) (⟨angleOf k.val % 15, Nat.mod_lt _ (by norm_num)⟩ : Fin 15) j :=
  ((row_entry (trips m c k.val (Proc.devRef .tc main_v26_3)) (trips m c k.val (Proc.devRef .tc main_v26_4)) k
      (fun z => congrFun (trips_count m c k.val) z) sliceFits_S135x128_S1x128 j).trans
    (congrFun ((trips_angles m c k.val).trans (before_angles m c)) (ix2 k j))).trans (row_angles _ _ _ _ k hc j)

/-- After `k` trips the state is that of the first `k` gates. -/
theorem trips_state : ∀ k ≤ 135, across (trips m c k (Proc.devRef .tc main_v26_5)) = gates (co m c) (si m c) k
  | 0, _ => (congrArg across (before_state m c)).trans begin_across
  | k + 1, h => by
    have ih := trips_state k (by omega)
    have e : (trips m c (k + 1) (Proc.devRef .tc main_v26_5) : FVec Ideal S128x32768 .f32) = _ :=
      (congrFun (trips_succ m c k) _).trans ((STEP_main_v26_5 (trips m c k)).trans
        (step_trip (trips m c k) ⟨k, by omega⟩ (fun z => congrFun (trips_count m c k) z)))
    refine (congrArg across e).trans ((trip_gate _ _ _ _ _ ⟨k, by omega⟩ (fun _ => found_cnot m c k _) (fun _ => found_qubit m c k _)
      (fun _ => found_target m c k _)).trans ?_)
    rw [ih]
    exact gate_angles m c _ ⟨k, by omega⟩ (fun hc j => found_angles m c ⟨k, by omega⟩ hc j) _

/-- The state the loop leaves is that of the three layers. -/
theorem loop_state : across (trips m c 135 (Proc.devRef .tc main_v26_5)) = layers (co m c) (si m c) 3 :=
  (trips_state m c 135 le_rfl).trans (gates_layers (co m c) (si m c) 3)

end Cert.ReferenceIdeal.Circuit

end
-- ==== Proof.Reference.OutValue.lean ====
/-
  The reference's last lines: the perceptron of the squared state.
-/
module

public import proofs.«01_k».proof.Proof.Reference.StepValue
public import proofs.«01_k».proof.Proof.Common.Network

@[expose] public section

set_option maxRecDepth 16384

noncomputable section

namespace Cert.ReferenceIdeal.Circuit

open Cert.ReferenceIdeal Cert.ReferenceIdeal.Gen Cert.ReferenceIdeal.Value Cert.Rows Cert.Gates Cert.Network
open Idealize.ShloMosaic Idealize.ShloMosaic.TcCoe
open scoped BigOperators

/-- The three layers of the perceptron, read at an entry. -/
theorem first_layer (S : FVec Ideal S128x32768 .f32) (W : FVec Ideal S512x32768 .f32) (b : FVec Ideal S512 .f32) (j : Fin 128) (i : Fin 512) :
    (maximumf (addf (Host.dotGeneral dot_S128x32768_S32768x512_S128x512_1_0_0_1_n_n none (mulf S S)
        (transpose S32768x512 [1, 0] W transposes_S512x32768_S32768x512_1_0))
        (broadcastInDim S128x512 ![0, 1] bcast_S1x512_S128x512_0_1 (broadcastInDim S1x512 ![1] bcast_S512_S1x512_1 b)))
        (broadcastInDim S128x512 ![] bcast_S_S128x512 (constant S_ .f32 0x00000000#32)) : FVec Ideal S128x512 .f32) (ix2 j i)
      = hidden1 W (fun i => b (ix1 i)) (fun y => across S y * across S y) i j := by
  unfold hidden1 linear
  pointwise []
  refine congrArg (fun a => max (a + b (ix1 i)) 0) (Finset.sum_congr rfl fun a _ => ?_)
  exact mul_comm _ _

theorem second_layer (H : FVec Ideal S128x512 .f32) (W : FVec Ideal S256x512 .f32) (b : FVec Ideal S256 .f32) (G : Fin 512 → Fin 128 → EReal)
    (hH : ∀ j i, H (ix2 j i) = G i j) (j : Fin 128) (i : Fin 256) :
    (maximumf (addf (Host.dotGeneral dot_S128x512_S512x256_S128x256_1_0_0_1_n_n none H
        (transpose S512x256 [1, 0] W transposes_S256x512_S512x256_1_0))
        (broadcastInDim S128x256 ![0, 1] bcast_S1x256_S128x256_0_1 (broadcastInDim S1x256 ![1] bcast_S256_S1x256_1 b)))
        (broadcastInDim S128x256 ![] bcast_S_S128x256 (constant S_ .f32 0x00000000#32)) : FVec Ideal S128x256 .f32) (ix2 j i)
      = max (linear W (fun i => b (ix1 i)) G i j) 0 := by
  unfold linear
  pointwise []
  refine congrArg (fun a => max (a + b (ix1 i)) 0) (Finset.sum_congr rfl fun a _ => ?_)
  rw [hH, mul_comm]

theorem last_layer (H : FVec Ideal S128x256 .f32) (W : FVec Ideal S128x256 .f32) (b : FVec Ideal S128 .f32) (G : Fin 256 → Fin 128 → EReal)
    (hH : ∀ j i, H (ix2 j i) = G i j) (j : Fin 128) (i : Fin 128) :
    (addf (Host.dotGeneral dot_S128x256_S256x128_S128x128_1_0_0_1_n_n none H
        (transpose S256x128 [1, 0] W transposes_S128x256_S256x128_1_0))
        (broadcastInDim S128x128 ![0, 1] bcast_S1x128_S128x128_0_1 (broadcastInDim S1x128 ![1] bcast_S128_S1x128_1 b)) : FVec Ideal S128x128 .f32) (ix2 j i)
      = linear W (fun i => b (ix1 i)) G i j := by
  unfold linear
  pointwise []
  refine congrArg (fun a => a + b (ix1 i)) (Finset.sum_congr rfl fun a _ => ?_)
  rw [hH, mul_comm]

/-- The lines after the loop, from any contents. -/
theorem out_entry (V : Valuation τ sig (Elt Ideal)) (j i : Fin 128) :
    (out_main_v44 V : FVec Ideal S128x128 .f32) (ix2 j i)
      = output (V (Proc.devRef .tc main_arg3)) (fun i => (V (Proc.devRef .tc main_arg4) : FVec Ideal S512 .f32) (ix1 i))
          (V (Proc.devRef .tc main_arg5)) (fun i => (V (Proc.devRef .tc main_arg6) : FVec Ideal S256 .f32) (ix1 i))
          (V (Proc.devRef .tc main_arg7)) (fun i => (V (Proc.devRef .tc main_arg8) : FVec Ideal S128 .f32) (ix1 i))
          (fun y => across (V (Proc.devRef .tc main_v26_5)) y * across (V (Proc.devRef .tc main_v26_5)) y) i j :=
  last_layer _ (V (Proc.devRef .tc main_arg7)) (V (Proc.devRef .tc main_arg8)) _
    (second_layer _ (V (Proc.devRef .tc main_arg5)) (V (Proc.devRef .tc main_arg6)) _
      (first_layer (V (Proc.devRef .tc main_v26_5)) (V (Proc.devRef .tc main_arg3)) (V (Proc.devRef .tc main_arg4)))) j i

end Cert.ReferenceIdeal.Circuit

end
-- ==== Proof.Reference.Value.lean ====
/-
  The reference's result: the perceptron of the squared state after the three layers.
-/
module

public import proofs.«01_k».proof.Proof.Reference.CircuitValue
public import proofs.«01_k».proof.Proof.Reference.OutValue

@[expose] public section

set_option maxRecDepth 16384

noncomputable section

namespace Cert.ReferenceIdeal.Circuit

open Cert.ReferenceIdeal Cert.ReferenceIdeal.Gen Cert.ReferenceIdeal.Value Cert.Rows Cert.Gates Cert.Angles Cert.Network
open Idealize.ShloMosaic Idealize.ShloMosaic.TcCoe
open Idealize.SL Idealize.SL.Sem

variable (m : (ℓ : Loc nD τ sig) → Buf (Elt Ideal) ℓ) (c : Dev nD)

/-- The state after the three layers. -/
def final : Arr.Idx → EReal := layers (co m c) (si m c) 3

/-- The perceptron's output for the same arrays. -/
theorem output_congr {W1 W1' : Mat 512 32768} {b1 b1' : Fin 512 → EReal} {W2 W2' : Mat 256 512} {b2 b2' : Fin 256 → EReal}
    {W3 W3' : Mat 128 256} {b3 b3' : Fin 128 → EReal} {P P' : Arr.Idx → EReal} (h1 : W1 = W1') (h2 : b1 = b1') (h3 : W2 = W2') (h4 : b2 = b2')
    (h5 : W3 = W3') (h6 : b3 = b3') (h7 : P = P') (i j : Fin 128) : output W1 b1 W2 b2 W3 b3 P i j = output W1' b1' W2' b2' W3' b3' P' i j := by
  subst h1 h2 h3 h4 h5 h6 h7; rfl

/-- The reference's result, one input per row. -/
theorem reference_value (b j : Fin 128) : (out_main_v44 (trips m c 135) : FVec Ideal S128x128 .f32) (ix2 b j)
    = output (m ((c : Thread nD τ).loc main_arg3)) (fun i => m ((c : Thread nD τ).loc main_arg4) (ix1 i))
        (m ((c : Thread nD τ).loc main_arg5)) (fun i => m ((c : Thread nD τ).loc main_arg6) (ix1 i))
        (m ((c : Thread nD τ).loc main_arg7)) (fun i => m ((c : Thread nD τ).loc main_arg8) (ix1 i))
        (fun y => final m c y * final m c y) j b :=
  (out_entry (trips m c 135) b j).trans (output_congr (iter_main_arg3 m c 135) (funext fun i => congrFun (iter_main_arg4 m c 135) (ix1 i))
    (iter_main_arg5 m c 135) (funext fun i => congrFun (iter_main_arg6 m c 135) (ix1 i)) (iter_main_arg7 m c 135)
    (funext fun i => congrFun (iter_main_arg8 m c 135) (ix1 i))
    (funext fun y => congrArg (fun s : Arr.Idx → EReal => s y * s y) (loop_state m c)) j b)

end Cert.ReferenceIdeal.Circuit

end
-- ==== Proof.Final.Equal.lean ====
/-
  The kernel's result and the reference's are the same function of the arguments.
-/
module

public import proofs.«01_k».proof.Proof.Ideal.KernelValue
public import proofs.«01_k».proof.Proof.Reference.Value

@[expose] public section

set_option maxRecDepth 16384

noncomputable section

namespace Cert.Equal

open Cert.Rows Cert.Gates Cert.Angles Cert.Network
open Idealize.ShloMosaic Idealize.ShloMosaic.TcCoe
open Idealize.SL Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The circuit's final state depends on the parameters and the features alone. -/
theorem state_same (c : Dev Cert.KernelIdeal.nD)
    (h0 : Cert.ReferenceIdeal.Circuit.features m' c = Cert.KernelIdeal.Run.features m c)
    (h1 : Cert.ReferenceIdeal.Circuit.thetas m' c = Cert.KernelIdeal.Run.thetas m c)
    (h2 : Cert.ReferenceIdeal.Circuit.phis m' c = Cert.KernelIdeal.Run.phis m c) :
    Cert.ReferenceIdeal.Circuit.final m' c = Cert.KernelIdeal.Run.final m c := by
  have ec : Cert.ReferenceIdeal.Circuit.co m' c = fun g => Cert.KernelIdeal.Run.co m c (g % 90) := by
    funext g j; unfold Cert.ReferenceIdeal.Circuit.co Cert.KernelIdeal.Run.co; rw [h0, h1, h2]
  have es : Cert.ReferenceIdeal.Circuit.si m' c = fun g => Cert.KernelIdeal.Run.si m c (g % 90) := by
    funext g j; unfold Cert.ReferenceIdeal.Circuit.si Cert.KernelIdeal.Run.si; rw [h0, h1, h2]
  unfold Cert.ReferenceIdeal.Circuit.final Cert.KernelIdeal.Run.final
  rw [ec, es]

/-- From memories that agree on the nine arguments the kernel's result is the reference's. -/
theorem result_same (c : Dev Cert.KernelIdeal.nD)
    (h0 : Cert.ReferenceIdeal.Circuit.features m' c = Cert.KernelIdeal.Run.features m c)
    (h1 : Cert.ReferenceIdeal.Circuit.thetas m' c = Cert.KernelIdeal.Run.thetas m c)
    (h2 : Cert.ReferenceIdeal.Circuit.phis m' c = Cert.KernelIdeal.Run.phis m c)
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (h6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (h7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (h8 : m' ((c : Thread Cert.ReferenceIdeal.nD Cert.ReferenceIdeal.τ).loc Cert.ReferenceIdeal.main_arg8) = m ((c : Thread Cert.KernelIdeal.nD Cert.KernelIdeal.τ).loc Cert.KernelIdeal.main_arg8)) :
    (Cert.ReferenceIdeal.Value.out_main_v44 (Cert.ReferenceIdeal.Circuit.trips m' c 135) : (⟨2, ![128, 128]⟩ : Shape).Idx → EReal)
      = Cert.KernelIdeal.Gen.V5 m (Cert.KernelIdeal.Run.outs m) c Cert.KernelIdeal.main_v0 := by
  funext z
  rw [eq_ix2 z]
  refine (Cert.ReferenceIdeal.Circuit.reference_value m' c (z 0) (z 1)).trans (Eq.trans ?_ (Cert.KernelIdeal.Run.kernel_value m c (z 0) (z 1)).symm)
  exact Cert.ReferenceIdeal.Circuit.output_congr h3 (funext fun i => congrFun h4 (ix1 i)) h5 (funext fun i => congrFun h6 (ix1 i)) h7
    (funext fun i => congrFun h8 (ix1 i)) (funext fun y => congrArg (fun s : Arr.Idx → EReal => s y * s y) (state_same m m' c h0 h1 h2)) (z 1) (z 0)

end Cert.Equal

end
-- ==== Proof.lean ====
/-
  The certificate: the kernel, its idealization and the reference each run to the end, leave their arguments as launched and
  every semaphore at zero; the idealization rewrites no operation; and over the extended reals the kernel's result is the
  reference's.
-/
module

public import proofs.«01_k».proof.Defs
public import proofs.«01_k».proof.Proof.Exact.Run
public import proofs.«01_k».proof.Proof.Ideal.Run
public import proofs.«01_k».proof.Proof.Final.Equal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel ends, its arguments unchanged and its semaphores at zero. -/
theorem frame_kernel : Cert.quiescent_Kernel := fun m ρ _ =>
  (θ_run Cert.Kernel.defs _ _).mono (fun _ h => ⟨fun c => (h.1 c).2, h.2⟩) (Cert.Kernel.Run.run m ρ)

/-- So does its idealization. -/
theorem frame_ideal : Cert.quiescent_KernelIdeal := fun m ρ _ =>
  (θ_run Cert.KernelIdeal.defs _ _).mono (fun _ h => ⟨fun c => (h.1 c).2, h.2⟩) (Cert.KernelIdeal.Run.run m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- Over the extended reals the kernel and the reference, started on the same arguments, end with the same result. -/
theorem same_result : Cert.algebraic_KernelIdeal_ReferenceIdeal := by
  intro m g m' g' _ args
  have equal (c : Dev Cert.KernelIdeal.nD) := by
    obtain ⟨h0, h1, h2, h3, h4, h5, h6, h7, h8⟩ := args c
    exact Cert.Equal.result_same m m' c h0 h1 h2 h3 h4 h5 h6 h7 h8
  refine ⟨fun c => Cert.KernelIdeal.Gen.V5 m (Cert.KernelIdeal.Run.outs m) c (Proc.devRef .tc Cert.KernelIdeal.main_v0),
    (θ_run Cert.KernelIdeal.defs _ _).mono (fun _ h => h.1) (Cert.KernelIdeal.Run.run m g),
    (θ_run Cert.ReferenceIdeal.defs _ _).mono (fun _ h c => ⟨(h c).1.trans (equal c), (h c).2⟩) (Cert.ReferenceIdeal.Value.run m' g')⟩

/-- The five claims together. -/
theorem claim : Cert.Claim := ⟨Cert.Kernel.Gen.facts, Cert.KernelIdeal.Gen.facts, Cert.ReferenceIdeal.Gen.facts,
  frame_kernel, frame_ideal, frame_reference, trivial, same_result⟩

end Cert.Proof

end
